-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x26 : Shape := ⟨2, ![1024, 26]⟩
abbrev S100000x64 : Shape := ⟨2, ![100000, 64]⟩
abbrev S128x64 : Shape := ⟨2, ![128, 64]⟩
abbrev S64 : Shape := ⟨1, ![64]⟩
abbrev S22464x256 : Shape := ⟨2, ![22464, 256]⟩
abbrev S256 : Shape := ⟨1, ![256]⟩
abbrev S325 : Shape := ⟨1, ![325]⟩
abbrev S26x26x325 : Shape := ⟨3, ![26, 26, 325]⟩
abbrev S64x64 : Shape := ⟨2, ![64, 64]⟩
abbrev S1x64 : Shape := ⟨2, ![1, 64]⟩
abbrev S2000x64 : Shape := ⟨2, ![2000, 64]⟩
abbrev S_ : Shape := ⟨0, ![]⟩
abbrev S325x1 : Shape := ⟨2, ![325, 1]⟩
abbrev S1024x325 : Shape := ⟨2, ![1024, 325]⟩
abbrev S1024x325x1 : Shape := ⟨3, ![1024, 325, 1]⟩
abbrev S1 : Shape := ⟨1, ![1]⟩
abbrev S1x1x1 : Shape := ⟨3, ![1, 1, 1]⟩
abbrev S1024x325x64 : Shape := ⟨3, ![1024, 325, 64]⟩
abbrev S1024x20800 : Shape := ⟨2, ![1024, 20800]⟩
abbrev S1024x26x1 : Shape := ⟨3, ![1024, 26, 1]⟩
abbrev S1024x26x64 : Shape := ⟨3, ![1024, 26, 64]⟩
abbrev S1024x1664 : Shape := ⟨2, ![1024, 1664]⟩
abbrev S1664x256 : Shape := ⟨2, ![1664, 256]⟩
abbrev S20800x256 : Shape := ⟨2, ![20800, 256]⟩
abbrev S1x1x64 : Shape := ⟨3, ![1, 1, 64]⟩
abbrev S25x25x64 : Shape := ⟨3, ![25, 25, 64]⟩
abbrev S25x1600 : Shape := ⟨2, ![25, 1600]⟩
abbrev S1x256 : Shape := ⟨2, ![1, 256]⟩
abbrev S1024x256 : Shape := ⟨2, ![1024, 256]⟩
abbrev S128x26x64 : Shape := ⟨3, ![128, 26, 64]⟩
abbrev S128x1664 : Shape := ⟨2, ![128, 1664]⟩
abbrev S128x20800 : Shape := ⟨2, ![128, 20800]⟩
abbrev S128x256 : Shape := ⟨2, ![128, 256]⟩
abbrev S128x325 : Shape := ⟨2, ![128, 325]⟩
abbrev S128x1x64 : Shape := ⟨3, ![128, 1, 64]⟩
abbrev S128x26 : Shape := ⟨2, ![128, 26]⟩
abbrev S1x26x325 : Shape := ⟨3, ![1, 26, 325]⟩
abbrev S26x325 : Shape := ⟨2, ![26, 325]⟩
abbrev S128 : Shape := ⟨1, ![128]⟩
abbrev S128x1 : Shape := ⟨2, ![128, 1]⟩
abbrev S128x25 : Shape := ⟨2, ![128, 25]⟩
abbrev S128x1600 : Shape := ⟨2, ![128, 1600]⟩
abbrev S1600x256 : Shape := ⟨2, ![1600, 256]⟩

abbrev nBuf : Space → Nat
  | .hbm => 178
  | .vmem => 23
  | .smem => 0
  | _ => 0

abbrev hbmTy0_0 (i : Nat) : BufTy := match i % 128 with
  | 0 => ⟨S1024x26, .i32⟩
  | 1 => ⟨S100000x64, .f32⟩
  | 2 => ⟨S100000x64, .f32⟩
  | 3 => ⟨S128x64, .f32⟩
  | 4 => ⟨S64, .f32⟩
  | 5 => ⟨S64, .f32⟩
  | 6 => ⟨S22464x256, .f32⟩
  | 7 => ⟨S256, .f32⟩
  | 8 => ⟨S325, .i32⟩
  | 9 => ⟨S325, .i1⟩
  | 10 => ⟨S325, .i32⟩
  | 11 => ⟨S325, .i1⟩
  | 12 => ⟨S26x26x325, .f32⟩
  | 13 => ⟨S64x64, .f32⟩
  | 14 => ⟨S64x64, .f32⟩
  | 15 => ⟨S1x64, .f32⟩
  | 16 => ⟨S100000x64, .f32⟩
  | 17 => ⟨S100000x64, .f32⟩
  | 18 => ⟨S_, .i32⟩
  | 19 => ⟨S325, .i32⟩
  | 20 => ⟨S325, .i32⟩
  | 21 => ⟨S325, .i32⟩
  | 22 => ⟨S325x1, .i32⟩
  | 23 => ⟨S1024x325, .i32⟩
  | 24 => ⟨S1024x325, .i32⟩
  | 25 => ⟨S_, .i32⟩
  | 26 => ⟨S325, .i32⟩
  | 27 => ⟨S325, .i32⟩
  | 28 => ⟨S325, .i32⟩
  | 29 => ⟨S325x1, .i32⟩
  | 30 => ⟨S1024x325, .i32⟩
  | 31 => ⟨S1024x325, .i32⟩
  | 32 => ⟨S_, .i32⟩
  | 33 => ⟨S1024x325, .i32⟩
  | 34 => ⟨S1024x325, .i32⟩
  | 35 => ⟨S_, .i32⟩
  | 36 => ⟨S1024x325, .i32⟩
  | 37 => ⟨S1024x325, .i32⟩
  | 38 => ⟨S1024x325, .i32⟩
  | 39 => ⟨S_, .i32⟩
  | 40 => ⟨S1024x325, .i32⟩
  | 41 => ⟨S1024x325, .i32⟩
  | 42 => ⟨S_, .i32⟩
  | 43 => ⟨S_, .i32⟩
  | 44 => ⟨S_, .i1⟩
  | 45 => ⟨S_, .i32⟩
  | 46 => ⟨S_, .i32⟩
  | 47 => ⟨S1024x325, .i32⟩
  | 48 => ⟨S1024x325, .i32⟩
  | 49 => ⟨S_, .i32⟩
  | 50 => ⟨S1024x325, .i32⟩
  | 51 => ⟨S1024x325, .i1⟩
  | 52 => ⟨S_, .i32⟩
  | 53 => ⟨S1024x325, .i32⟩
  | 54 => ⟨S1024x325, .i1⟩
  | 55 => ⟨S_, .i32⟩
  | 56 => ⟨S_, .i1⟩
  | 57 => ⟨S1024x325, .i1⟩
  | 58 => ⟨S1024x325, .i1⟩
  | 59 => ⟨S1024x325, .i1⟩
  | 60 => ⟨S1024x325, .i32⟩
  | 61 => ⟨S1024x325, .i32⟩
  | 62 => ⟨S1024x325, .i32⟩
  | 63 => ⟨S1024x325, .i32⟩
  | 64 => ⟨S_, .i32⟩
  | 65 => ⟨S1024x325, .i32⟩
  | 66 => ⟨S1024x325, .i32⟩
  | 67 => ⟨S_, .i32⟩
  | 68 => ⟨S1024x325, .i32⟩
  | 69 => ⟨S1024x325, .i32⟩
  | 70 => ⟨S1024x325, .i32⟩
  | 71 => ⟨S_, .i32⟩
  | 72 => ⟨S1024x325, .i32⟩
  | 73 => ⟨S1024x325, .i32⟩
  | 74 => ⟨S_, .i32⟩
  | 75 => ⟨S_, .i32⟩
  | 76 => ⟨S_, .i1⟩
  | 77 => ⟨S_, .i32⟩
  | 78 => ⟨S_, .i32⟩
  | 79 => ⟨S1024x325, .i32⟩
  | 80 => ⟨S1024x325, .i32⟩
  | 81 => ⟨S_, .i32⟩
  | 82 => ⟨S1024x325, .i32⟩
  | 83 => ⟨S1024x325, .i1⟩
  | 84 => ⟨S_, .i32⟩
  | 85 => ⟨S1024x325, .i32⟩
  | 86 => ⟨S1024x325, .i1⟩
  | 87 => ⟨S_, .i32⟩
  | 88 => ⟨S_, .i1⟩
  | 89 => ⟨S1024x325, .i1⟩
  | 90 => ⟨S1024x325, .i1⟩
  | 91 => ⟨S1024x325, .i1⟩
  | 92 => ⟨S1024x325, .i32⟩
  | 93 => ⟨S1024x325, .i32⟩
  | 94 => ⟨S1024x325, .i32⟩
  | 95 => ⟨S1024x325, .i32⟩
  | 96 => ⟨S_, .i32⟩
  | 97 => ⟨S1024x325, .i32⟩
  | 98 => ⟨S1024x325, .i1⟩
  | 99 => ⟨S_, .i32⟩
  | 100 => ⟨S1024x325, .i32⟩
  | 101 => ⟨S1024x325, .i32⟩
  | 102 => ⟨S1024x325, .i32⟩
  | 103 => ⟨S1024x325x1, .i32⟩
  | 104 => ⟨S1, .i32⟩
  | 105 => ⟨S_, .i32⟩
  | 106 => ⟨S1024x325x1, .i32⟩
  | 107 => ⟨S1024x325x1, .i1⟩
  | 108 => ⟨S1x1x1, .i32⟩
  | 109 => ⟨S1024x325x1, .i32⟩
  | 110 => ⟨S1024x325x1, .i1⟩
  | 111 => ⟨S1024x325x1, .i1⟩
  | 112 => ⟨S_, .i1⟩
  | 113 => ⟨S1024x325, .i1⟩
  | 114 => ⟨S1024x325x64, .f32⟩
  | 115 => ⟨S1024x325x64, .i1⟩
  | 116 => ⟨S_, .f32⟩
  | 117 => ⟨S1024x325x64, .f32⟩
  | 118 => ⟨S1024x325x64, .f32⟩
  | 119 => ⟨S_, .i32⟩
  | 120 => ⟨S1024x325, .i32⟩
  | 121 => ⟨S1024x325, .i1⟩
  | 122 => ⟨S_, .i32⟩
  | 123 => ⟨S1024x325, .i32⟩
  | 124 => ⟨S1024x325, .i32⟩
  | 125 => ⟨S1024x325, .i32⟩
  | 126 => ⟨S1024x325x1, .i32⟩
  | 127 => ⟨S1, .i32⟩
  | _ => ⟨S1024x26, .i32⟩

abbrev hbmTy0_1 (i : Nat) : BufTy := match i % 128 with
  | 0 => ⟨S_, .i32⟩
  | 1 => ⟨S1024x325x1, .i32⟩
  | 2 => ⟨S1024x325x1, .i1⟩
  | 3 => ⟨S1x1x1, .i32⟩
  | 4 => ⟨S1024x325x1, .i32⟩
  | 5 => ⟨S1024x325x1, .i1⟩
  | 6 => ⟨S1024x325x1, .i1⟩
  | 7 => ⟨S_, .i1⟩
  | 8 => ⟨S1024x325, .i1⟩
  | 9 => ⟨S1024x325x64, .f32⟩
  | 10 => ⟨S1024x325x64, .i1⟩
  | 11 => ⟨S_, .f32⟩
  | 12 => ⟨S1024x325x64, .f32⟩
  | 13 => ⟨S1024x325x64, .f32⟩
  | 14 => ⟨S1024x325x64, .f32⟩
  | 15 => ⟨S1024x20800, .f32⟩
  | 16 => ⟨S_, .i32⟩
  | 17 => ⟨S1024x26, .i32⟩
  | 18 => ⟨S1024x26, .i1⟩
  | 19 => ⟨S_, .i32⟩
  | 20 => ⟨S1024x26, .i32⟩
  | 21 => ⟨S1024x26, .i32⟩
  | 22 => ⟨S1024x26, .i32⟩
  | 23 => ⟨S1024x26x1, .i32⟩
  | 24 => ⟨S1, .i32⟩
  | 25 => ⟨S_, .i32⟩
  | 26 => ⟨S1024x26x1, .i32⟩
  | 27 => ⟨S1024x26x1, .i1⟩
  | 28 => ⟨S1x1x1, .i32⟩
  | 29 => ⟨S1024x26x1, .i32⟩
  | 30 => ⟨S1024x26x1, .i1⟩
  | 31 => ⟨S1024x26x1, .i1⟩
  | 32 => ⟨S_, .i1⟩
  | 33 => ⟨S1024x26, .i1⟩
  | 34 => ⟨S1024x26x64, .f32⟩
  | 35 => ⟨S1024x26x64, .i1⟩
  | 36 => ⟨S_, .f32⟩
  | 37 => ⟨S1024x26x64, .f32⟩
  | 38 => ⟨S1024x26x64, .f32⟩
  | 39 => ⟨S1024x1664, .f32⟩
  | 40 => ⟨S1664x256, .f32⟩
  | 41 => ⟨S20800x256, .f32⟩
  | 42 => ⟨S1x1x64, .f32⟩
  | 43 => ⟨S25x25x64, .i32⟩
  | 44 => ⟨S25x25x64, .i32⟩
  | 45 => ⟨S25x25x64, .i1⟩
  | 46 => ⟨S25x25x64, .f32⟩
  | 47 => ⟨S25x1600, .f32⟩
  | 48 => ⟨S1x256, .f32⟩
  | 49 => ⟨S1024x256, .f32⟩
  | _ => ⟨S1024x26, .i32⟩

abbrev hbmTy (i : Nat) : BufTy := match i / 128 with
  | 0 => hbmTy0_0 i
  | 1 => hbmTy0_1 i
  | _ => ⟨S1024x26, .i32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S128x26x64, .f32⟩
  | .local _ .vmem, ⟨10, _⟩ => ⟨S128x26x64, .f32⟩
  | .local _ .vmem, ⟨11, _⟩ => ⟨S128x1664, .f32⟩
  | .local _ .vmem, ⟨12, _⟩ => ⟨S128x1664, .f32⟩
  | .local _ .vmem, ⟨13, _⟩ => ⟨S128x20800, .f32⟩
  | .local _ .vmem, ⟨14, _⟩ => ⟨S128x20800, .f32⟩
  | .local _ .vmem, ⟨15, _⟩ => ⟨S1664x256, .f32⟩
  | .local _ .vmem, ⟨16, _⟩ => ⟨S20800x256, .f32⟩
  | .local _ .vmem, ⟨17, _⟩ => ⟨S1x1x64, .f32⟩
  | .local _ .vmem, ⟨18, _⟩ => ⟨S26x26x325, .f32⟩
  | .local _ .vmem, ⟨19, _⟩ => ⟨S25x1600, .f32⟩
  | .local _ .vmem, ⟨20, _⟩ => ⟨S1x256, .f32⟩
  | .local _ .vmem, ⟨21, _⟩ => ⟨S128x256, .f32⟩
  | .local _ .vmem, ⟨22, _⟩ => ⟨S128x256, .f32⟩
  | _, _ => ⟨S1024x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_c_3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_call0_c : Ref sig .tc := ⟨.hbm, 43, rfl⟩
abbrev main_call0_v0 : Ref sig .tc := ⟨.hbm, 44, rfl⟩
abbrev main_call0_c_0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_c_1 : Ref sig .tc := ⟨.hbm, 49, rfl⟩
abbrev main_call0_v4 : Ref sig .tc := ⟨.hbm, 50, rfl⟩
abbrev main_call0_v5 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_c_3 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_v23 : Ref sig .tc := ⟨.hbm, 62, rfl⟩
abbrev main_v24 : Ref sig .tc := ⟨.hbm, 63, rfl⟩
abbrev main_c_9 : Ref sig .tc := ⟨.hbm, 64, rfl⟩
abbrev main_v25 : Ref sig .tc := ⟨.hbm, 65, rfl⟩
abbrev main_v26 : Ref sig .tc := ⟨.hbm, 66, rfl⟩
abbrev main_c_10 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_11 : Ref sig .tc := ⟨.hbm, 71, rfl⟩
abbrev main_v30 : Ref sig .tc := ⟨.hbm, 72, rfl⟩
abbrev main_v31 : Ref sig .tc := ⟨.hbm, 73, rfl⟩
abbrev main_c_12 : Ref sig .tc := ⟨.hbm, 74, rfl⟩
abbrev main_call1_c : Ref sig .tc := ⟨.hbm, 75, rfl⟩
abbrev main_call1_v0 : Ref sig .tc := ⟨.hbm, 76, rfl⟩
abbrev main_call1_c_0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_c_1 : Ref sig .tc := ⟨.hbm, 81, rfl⟩
abbrev main_call1_v4 : Ref sig .tc := ⟨.hbm, 82, rfl⟩
abbrev main_call1_v5 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_c_3 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_v13 : Ref sig .tc := ⟨.hbm, 93, rfl⟩
abbrev main_v32 : Ref sig .tc := ⟨.hbm, 94, rfl⟩
abbrev main_v33 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v34 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_call3_cst : Ref sig .tc := ⟨.hbm, 139, rfl⟩
abbrev main_call3_v15 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_call4_c : Ref sig .tc := ⟨.hbm, 144, rfl⟩
abbrev main_call4_v0 : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_c_1 : Ref sig .tc := ⟨.hbm, 152, rfl⟩
abbrev main_call4_c_2 : Ref sig .tc := ⟨.hbm, 153, rfl⟩
abbrev main_call4_v6 : Ref sig .tc := ⟨.hbm, 154, rfl⟩
abbrev main_call4_v7 : Ref sig .tc := ⟨.hbm, 155, rfl⟩
abbrev main_call4_v8 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_c_3 : Ref sig .tc := ⟨.hbm, 160, rfl⟩
abbrev main_call4_v12 : Ref sig .tc := ⟨.hbm, 161, rfl⟩
abbrev main_call4_v13 : Ref sig .tc := ⟨.hbm, 162, rfl⟩
abbrev main_call4_v14 : Ref sig .tc := ⟨.hbm, 163, rfl⟩
abbrev main_call4_cst : Ref sig .tc := ⟨.hbm, 164, rfl⟩
abbrev main_call4_v15 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_v44 : Ref sig .tc := ⟨.hbm, 172, rfl⟩
abbrev main_v45 : Ref sig .tc := ⟨.hbm, 173, rfl⟩
abbrev main_v46 : Ref sig .tc := ⟨.hbm, 174, rfl⟩
abbrev main_v47 : Ref sig .tc := ⟨.hbm, 175, rfl⟩
abbrev main_v48 : Ref sig .tc := ⟨.hbm, 176, rfl⟩
abbrev main_v49 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x26x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1664 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x20800 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1664x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20800x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S26x26x325 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S25x1600 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S1024x26 : Shape := ⟨2, ![1024, 26]⟩
abbrev S100000x64 : Shape := ⟨2, ![100000, 64]⟩
abbrev S128x64 : Shape := ⟨2, ![128, 64]⟩
abbrev S64 : Shape := ⟨1, ![64]⟩
abbrev S22464x256 : Shape := ⟨2, ![22464, 256]⟩
abbrev S256 : Shape := ⟨1, ![256]⟩
abbrev S325 : Shape := ⟨1, ![325]⟩
abbrev S_ : Shape := ⟨0, ![]⟩
abbrev S1024x26x1 : Shape := ⟨3, ![1024, 26, 1]⟩
abbrev S1 : Shape := ⟨1, ![1]⟩
abbrev S1x1x1 : Shape := ⟨3, ![1, 1, 1]⟩
abbrev S1024x26x64 : Shape := ⟨3, ![1024, 26, 64]⟩
abbrev S325x1 : Shape := ⟨2, ![325, 1]⟩
abbrev S1024x325 : Shape := ⟨2, ![1024, 325]⟩
abbrev S1024x325x1 : Shape := ⟨3, ![1024, 325, 1]⟩
abbrev S1024x325x64 : Shape := ⟨3, ![1024, 325, 64]⟩
abbrev S1024x325x128 : Shape := ⟨3, ![1024, 325, 128]⟩
abbrev S1x1x64 : Shape := ⟨3, ![1, 1, 64]⟩
abbrev S1024 : Shape := ⟨1, ![1024]⟩
abbrev S1024x1 : Shape := ⟨2, ![1024, 1]⟩
abbrev S1024x1664 : Shape := ⟨2, ![1024, 1664]⟩
abbrev S1024x20800 : Shape := ⟨2, ![1024, 20800]⟩
abbrev S1024x22464 : Shape := ⟨2, ![1024, 22464]⟩
abbrev S1024x256 : Shape := ⟨2, ![1024, 256]⟩
abbrev S1x256 : Shape := ⟨2, ![1, 256]⟩

abbrev nBuf : Space → Nat
  | .hbm => 205
  | .vmem => 0
  | .smem => 0
  | _ => 0

abbrev hbmTy0_0 (i : Nat) : BufTy := match i % 128 with
  | 0 => ⟨S1024x26, .i32⟩
  | 1 => ⟨S100000x64, .f32⟩
  | 2 => ⟨S100000x64, .f32⟩
  | 3 => ⟨S128x64, .f32⟩
  | 4 => ⟨S64, .f32⟩
  | 5 => ⟨S64, .f32⟩
  | 6 => ⟨S22464x256, .f32⟩
  | 7 => ⟨S256, .f32⟩
  | 8 => ⟨S325, .i32⟩
  | 9 => ⟨S325, .i1⟩
  | 10 => ⟨S325, .i32⟩
  | 11 => ⟨S325, .i1⟩
  | 12 => ⟨S325, .i1⟩
  | 13 => ⟨S325, .i1⟩
  | 14 => ⟨S_, .i32⟩
  | 15 => ⟨S1024x26, .i32⟩
  | 16 => ⟨S1024x26, .i1⟩
  | 17 => ⟨S_, .i32⟩
  | 18 => ⟨S1024x26, .i32⟩
  | 19 => ⟨S1024x26, .i32⟩
  | 20 => ⟨S1024x26, .i32⟩
  | 21 => ⟨S1024x26x1, .i32⟩
  | 22 => ⟨S1, .i32⟩
  | 23 => ⟨S_, .i32⟩
  | 24 => ⟨S1024x26x1, .i32⟩
  | 25 => ⟨S1024x26x1, .i1⟩
  | 26 => ⟨S1x1x1, .i32⟩
  | 27 => ⟨S1024x26x1, .i32⟩
  | 28 => ⟨S1024x26x1, .i1⟩
  | 29 => ⟨S1024x26x1, .i1⟩
  | 30 => ⟨S_, .i1⟩
  | 31 => ⟨S1024x26, .i1⟩
  | 32 => ⟨S1024x26x64, .f32⟩
  | 33 => ⟨S1024x26x64, .i1⟩
  | 34 => ⟨S_, .f32⟩
  | 35 => ⟨S1024x26x64, .f32⟩
  | 36 => ⟨S1024x26x64, .f32⟩
  | 37 => ⟨S_, .i32⟩
  | 38 => ⟨S325, .i32⟩
  | 39 => ⟨S325, .i32⟩
  | 40 => ⟨S325, .i32⟩
  | 41 => ⟨S325x1, .i32⟩
  | 42 => ⟨S1024x325, .i32⟩
  | 43 => ⟨S1024x325, .i32⟩
  | 44 => ⟨S_, .i32⟩
  | 45 => ⟨S325, .i32⟩
  | 46 => ⟨S325, .i32⟩
  | 47 => ⟨S325, .i32⟩
  | 48 => ⟨S325x1, .i32⟩
  | 49 => ⟨S1024x325, .i32⟩
  | 50 => ⟨S1024x325, .i32⟩
  | 51 => ⟨S_, .i32⟩
  | 52 => ⟨S1024x325, .i32⟩
  | 53 => ⟨S1024x325, .i32⟩
  | 54 => ⟨S_, .i32⟩
  | 55 => ⟨S1024x325, .i32⟩
  | 56 => ⟨S1024x325, .i32⟩
  | 57 => ⟨S1024x325, .i32⟩
  | 58 => ⟨S_, .i32⟩
  | 59 => ⟨S1024x325, .i32⟩
  | 60 => ⟨S1024x325, .i32⟩
  | 61 => ⟨S_, .i32⟩
  | 62 => ⟨S_, .i32⟩
  | 63 => ⟨S_, .i1⟩
  | 64 => ⟨S_, .i32⟩
  | 65 => ⟨S_, .i32⟩
  | 66 => ⟨S1024x325, .i32⟩
  | 67 => ⟨S1024x325, .i32⟩
  | 68 => ⟨S_, .i32⟩
  | 69 => ⟨S1024x325, .i32⟩
  | 70 => ⟨S1024x325, .i1⟩
  | 71 => ⟨S_, .i32⟩
  | 72 => ⟨S1024x325, .i32⟩
  | 73 => ⟨S1024x325, .i1⟩
  | 74 => ⟨S_, .i32⟩
  | 75 => ⟨S_, .i1⟩
  | 76 => ⟨S1024x325, .i1⟩
  | 77 => ⟨S1024x325, .i1⟩
  | 78 => ⟨S1024x325, .i1⟩
  | 79 => ⟨S1024x325, .i32⟩
  | 80 => ⟨S1024x325, .i32⟩
  | 81 => ⟨S1024x325, .i32⟩
  | 82 => ⟨S1024x325, .i32⟩
  | 83 => ⟨S_, .i32⟩
  | 84 => ⟨S1024x325, .i32⟩
  | 85 => ⟨S1024x325, .i1⟩
  | 86 => ⟨S_, .i32⟩
  | 87 => ⟨S1024x325, .i32⟩
  | 88 => ⟨S1024x325, .i32⟩
  | 89 => ⟨S1024x325, .i32⟩
  | 90 => ⟨S1024x325x1, .i32⟩
  | 91 => ⟨S1, .i32⟩
  | 92 => ⟨S_, .i32⟩
  | 93 => ⟨S1024x325x1, .i32⟩
  | 94 => ⟨S1024x325x1, .i1⟩
  | 95 => ⟨S1x1x1, .i32⟩
  | 96 => ⟨S1024x325x1, .i32⟩
  | 97 => ⟨S1024x325x1, .i1⟩
  | 98 => ⟨S1024x325x1, .i1⟩
  | 99 => ⟨S_, .i1⟩
  | 100 => ⟨S1024x325, .i1⟩
  | 101 => ⟨S1024x325x64, .f32⟩
  | 102 => ⟨S1024x325x64, .i1⟩
  | 103 => ⟨S_, .f32⟩
  | 104 => ⟨S1024x325x64, .f32⟩
  | 105 => ⟨S1024x325x64, .f32⟩
  | 106 => ⟨S_, .i32⟩
  | 107 => ⟨S1024x325, .i32⟩
  | 108 => ⟨S1024x325, .i32⟩
  | 109 => ⟨S_, .i32⟩
  | 110 => ⟨S1024x325, .i32⟩
  | 111 => ⟨S1024x325, .i32⟩
  | 112 => ⟨S1024x325, .i32⟩
  | 113 => ⟨S_, .i32⟩
  | 114 => ⟨S1024x325, .i32⟩
  | 115 => ⟨S1024x325, .i32⟩
  | 116 => ⟨S_, .i32⟩
  | 117 => ⟨S_, .i32⟩
  | 118 => ⟨S_, .i1⟩
  | 119 => ⟨S_, .i32⟩
  | 120 => ⟨S_, .i32⟩
  | 121 => ⟨S1024x325, .i32⟩
  | 122 => ⟨S1024x325, .i32⟩
  | 123 => ⟨S_, .i32⟩
  | 124 => ⟨S1024x325, .i32⟩
  | 125 => ⟨S1024x325, .i1⟩
  | 126 => ⟨S_, .i32⟩
  | 127 => ⟨S1024x325, .i32⟩
  | _ => ⟨S1024x26, .i32⟩

abbrev hbmTy0_1 (i : Nat) : BufTy := match i % 128 with
  | 0 => ⟨S1024x325, .i1⟩
  | 1 => ⟨S_, .i32⟩
  | 2 => ⟨S_, .i1⟩
  | 3 => ⟨S1024x325, .i1⟩
  | 4 => ⟨S1024x325, .i1⟩
  | 5 => ⟨S1024x325, .i1⟩
  | 6 => ⟨S1024x325, .i32⟩
  | 7 => ⟨S1024x325, .i32⟩
  | 8 => ⟨S1024x325, .i32⟩
  | 9 => ⟨S1024x325, .i32⟩
  | 10 => ⟨S_, .i32⟩
  | 11 => ⟨S1024x325, .i32⟩
  | 12 => ⟨S1024x325, .i1⟩
  | 13 => ⟨S_, .i32⟩
  | 14 => ⟨S1024x325, .i32⟩
  | 15 => ⟨S1024x325, .i32⟩
  | 16 => ⟨S1024x325, .i32⟩
  | 17 => ⟨S1024x325x1, .i32⟩
  | 18 => ⟨S1, .i32⟩
  | 19 => ⟨S_, .i32⟩
  | 20 => ⟨S1024x325x1, .i32⟩
  | 21 => ⟨S1024x325x1, .i1⟩
  | 22 => ⟨S1x1x1, .i32⟩
  | 23 => ⟨S1024x325x1, .i32⟩
  | 24 => ⟨S1024x325x1, .i1⟩
  | 25 => ⟨S1024x325x1, .i1⟩
  | 26 => ⟨S_, .i1⟩
  | 27 => ⟨S1024x325, .i1⟩
  | 28 => ⟨S1024x325x64, .f32⟩
  | 29 => ⟨S1024x325x64, .i1⟩
  | 30 => ⟨S_, .f32⟩
  | 31 => ⟨S1024x325x64, .f32⟩
  | 32 => ⟨S1024x325x64, .f32⟩
  | 33 => ⟨S1024x325x128, .f32⟩
  | 34 => ⟨S1024x325x64, .f32⟩
  | 35 => ⟨S1x1x64, .f32⟩
  | 36 => ⟨S1024x325x64, .f32⟩
  | 37 => ⟨S1024x325x64, .f32⟩
  | 38 => ⟨S1024x325x64, .f32⟩
  | 39 => ⟨S_, .i32⟩
  | 40 => ⟨S325, .i32⟩
  | 41 => ⟨S325, .i32⟩
  | 42 => ⟨S325, .i32⟩
  | 43 => ⟨S325x1, .i32⟩
  | 44 => ⟨S1024x325x64, .f32⟩
  | 45 => ⟨S_, .i32⟩
  | 46 => ⟨S325, .i32⟩
  | 47 => ⟨S325, .i32⟩
  | 48 => ⟨S325, .i32⟩
  | 49 => ⟨S325x1, .i32⟩
  | 50 => ⟨S1024x325x64, .f32⟩
  | 51 => ⟨S1024x325x64, .f32⟩
  | 52 => ⟨S1024x325, .f32⟩
  | 53 => ⟨S_, .f32⟩
  | 54 => ⟨S1024, .f32⟩
  | 55 => ⟨S_, .f32⟩
  | 56 => ⟨S1024, .f32⟩
  | 57 => ⟨S1024, .f32⟩
  | 58 => ⟨S1024x1, .f32⟩
  | 59 => ⟨S1024x325, .f32⟩
  | 60 => ⟨S1024x325, .f32⟩
  | 61 => ⟨S1024x325, .f32⟩
  | 62 => ⟨S_, .f32⟩
  | 63 => ⟨S1024, .f32⟩
  | 64 => ⟨S1024x1, .f32⟩
  | 65 => ⟨S1024x325, .f32⟩
  | 66 => ⟨S1024x325, .f32⟩
  | 67 => ⟨S1024x325x1, .f32⟩
  | 68 => ⟨S1024x325x64, .f32⟩
  | 69 => ⟨S1024x325x64, .f32⟩
  | 70 => ⟨S1024x1664, .f32⟩
  | 71 => ⟨S1024x20800, .f32⟩
  | 72 => ⟨S1024x22464, .f32⟩
  | 73 => ⟨S1024x256, .f32⟩
  | 74 => ⟨S1x256, .f32⟩
  | 75 => ⟨S1024x256, .f32⟩
  | 76 => ⟨S1024x256, .f32⟩
  | _ => ⟨S1024x26, .i32⟩

abbrev hbmTy (i : Nat) : BufTy := match i / 128 with
  | 0 => hbmTy0_0 i
  | 1 => hbmTy0_1 i
  | _ => ⟨S1024x26, .i32⟩

abbrev bufTy : (tb : Table) → Fin (tcTables nBuf tb) → BufTy
  | .hbm, ⟨i, _⟩ => hbmTy i
  | _, _ => ⟨S1024x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_c_5 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_c_6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_c_7 : Ref sig .tc := ⟨.hbm, 51, rfl⟩
abbrev main_v13 : Ref sig .tc := ⟨.hbm, 52, rfl⟩
abbrev main_v14 : Ref sig .tc := ⟨.hbm, 53, rfl⟩
abbrev main_c_8 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_9 : Ref sig .tc := ⟨.hbm, 58, rfl⟩
abbrev main_v18 : Ref sig .tc := ⟨.hbm, 59, rfl⟩
abbrev main_v19 : Ref sig .tc := ⟨.hbm, 60, rfl⟩
abbrev main_c_10 : Ref sig .tc := ⟨.hbm, 61, rfl⟩
abbrev main_call1_c : Ref sig .tc := ⟨.hbm, 62, rfl⟩
abbrev main_call1_v0 : Ref sig .tc := ⟨.hbm, 63, rfl⟩
abbrev main_call1_c_0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_c_1 : Ref sig .tc := ⟨.hbm, 68, rfl⟩
abbrev main_call1_v4 : Ref sig .tc := ⟨.hbm, 69, rfl⟩
abbrev main_call1_v5 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_c_3 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_v20 : Ref sig .tc := ⟨.hbm, 81, rfl⟩
abbrev main_v21 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v22 : Ref sig .tc := ⟨.hbm, 105, rfl⟩
abbrev main_c_11 : Ref sig .tc := ⟨.hbm, 106, rfl⟩
abbrev main_v23 : Ref sig .tc := ⟨.hbm, 107, rfl⟩
abbrev main_v24 : Ref sig .tc := ⟨.hbm, 108, rfl⟩
abbrev main_c_12 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_c_13 : Ref sig .tc := ⟨.hbm, 113, rfl⟩
abbrev main_v28 : Ref sig .tc := ⟨.hbm, 114, rfl⟩
abbrev main_v29 : Ref sig .tc := ⟨.hbm, 115, rfl⟩
abbrev main_c_14 : Ref sig .tc := ⟨.hbm, 116, rfl⟩
abbrev main_call3_c : Ref sig .tc := ⟨.hbm, 117, rfl⟩
abbrev main_call3_v0 : Ref sig .tc := ⟨.hbm, 118, rfl⟩
abbrev main_call3_c_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_c_1 : Ref sig .tc := ⟨.hbm, 123, rfl⟩
abbrev main_call3_v4 : Ref sig .tc := ⟨.hbm, 124, rfl⟩
abbrev main_call3_v5 : Ref sig .tc := ⟨.hbm, 125, rfl⟩
abbrev main_call3_c_2 : Ref sig .tc := ⟨.hbm, 126, rfl⟩
abbrev main_call3_v6 : Ref sig .tc := ⟨.hbm, 127, rfl⟩
abbrev main_call3_v7 : Ref sig .tc := ⟨.hbm, 128, rfl⟩
abbrev main_call3_c_3 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_v12 : Ref sig .tc := ⟨.hbm, 134, rfl⟩
abbrev main_call3_v13 : Ref sig .tc := ⟨.hbm, 135, rfl⟩
abbrev main_v30 : Ref sig .tc := ⟨.hbm, 136, rfl⟩
abbrev main_v31 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_c_1 : Ref sig .tc := ⟨.hbm, 146, rfl⟩
abbrev main_call4_c_2 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_3 : Ref sig .tc := ⟨.hbm, 154, rfl⟩
abbrev main_call4_v12 : Ref sig .tc := ⟨.hbm, 155, rfl⟩
abbrev main_call4_v13 : Ref sig .tc := ⟨.hbm, 156, rfl⟩
abbrev main_call4_v14 : Ref sig .tc := ⟨.hbm, 157, rfl⟩
abbrev main_call4_cst : Ref sig .tc := ⟨.hbm, 158, rfl⟩
abbrev main_call4_v15 : Ref sig .tc := ⟨.hbm, 159, rfl⟩
abbrev main_v32 : Ref sig .tc := ⟨.hbm, 160, rfl⟩
abbrev main_v33 : Ref sig .tc := ⟨.hbm, 161, rfl⟩
abbrev main_v34 : Ref sig .tc := ⟨.hbm, 162, rfl⟩
abbrev main_v35 : Ref sig .tc := ⟨.hbm, 163, rfl⟩
abbrev main_v36 : Ref sig .tc := ⟨.hbm, 164, rfl⟩
abbrev main_v37 : Ref sig .tc := ⟨.hbm, 165, rfl⟩
abbrev main_v38 : Ref sig .tc := ⟨.hbm, 166, rfl⟩
abbrev main_c_15 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_v42 : Ref sig .tc := ⟨.hbm, 171, rfl⟩
abbrev main_v43 : Ref sig .tc := ⟨.hbm, 172, rfl⟩
abbrev main_c_16 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_v48 : Ref sig .tc := ⟨.hbm, 178, rfl⟩
abbrev main_v49 : Ref sig .tc := ⟨.hbm, 179, rfl⟩
abbrev main_v50 : Ref sig .tc := ⟨.hbm, 180, rfl⟩
abbrev main_cst : Ref sig .tc := ⟨.hbm, 181, rfl⟩
abbrev main_v51 : Ref sig .tc := ⟨.hbm, 182, rfl⟩
abbrev main_cst_17 : Ref sig .tc := ⟨.hbm, 183, rfl⟩
abbrev main_v52 : Ref sig .tc := ⟨.hbm, 184, rfl⟩
abbrev main_v53 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_cst_18 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩

abbrev nD : Nat := 1
abbrev τ : Topo := Topo.v7x

variable {F : FTy → Type} [FloatOps F]
-- ==== Proof.KRun.lean ====
/- The idealized kernel's run, read at its result: the launch of the generated segments with the last boundary's contents
   of the result array in the post, beside the unchanged arguments. -/
module

public import proofs.«01_k».proof.Proof.Gen.KernelIdeal.Frame

@[expose] public section
set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's @main terminates with the result array
    at the contents the second region leaves, `W13`, and every argument array as launched. -/
theorem run : θ_run defs (onTc (τ := τ) (main (F := F))) ⟨m, fun _ => 0, ρ⟩ (fun r => ∀ c : Dev nD,
      r.2.mem ((c.tc : Thread nD τ).loc main_v49) = W13 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c =>
      ⟨h c _ (mem_uc main_v49 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Launched

end
-- ==== Proof.Spec.lean ====
/- The model's arithmetic for one batch row, over plain functions of indices: attention score of a pair of fields, softmax over
   the pairs, and the final linear layer.  Neither program is mentioned here. -/
module

public import Idealize.ShloMosaic.Lib.Pointwise

@[expose] public section
set_option maxRecDepth 16384

noncomputable section

namespace Cert.Spec

open Idealize.ShloMosaic

/-- The start of a running maximum: the value both programs print for minus infinity. -/
def floorVal : EReal := Ideal.ofBits .f32 0xFF800000#32

/-- The attention score of a pair of fields: their embeddings multiplied lane by lane and summed against the attention weights. -/
def score (E : Fin 26 → Fin 64 → EReal) (wa : Fin 64 → EReal) (i j : Fin 26) : EReal :=
  ∑ d : Fin 64, E i d * E j d * wa d

/-- The largest of the 325 scores. -/
def peak (s : Fin 325 → EReal) : EReal := Finset.univ.fold max floorVal s

/-- Softmax over the 325 pairs. -/
def soft (s : Fin 325 → EReal) (p : Fin 325) : EReal :=
  Ideal.div (Ideal.exp (s p - peak s)) (∑ q : Fin 325, Ideal.exp (s q - peak s))

/-- One chunk of 25 pairs (1600 lanes) of the final layer's pair part, at one output: `h` the features before the hyperbolic
    tangent, `w` the pair weights, `W` the layer's column. -/
def chunk (h : Fin 20800 → EReal) (w : Fin 325 → EReal) (W : Fin 20800 → EReal) (c : Fin 13) : EReal :=
  ∑ k : Fin 1600, Ideal.tanh (h ⟨c.val * 1600 + k.val, by omega⟩) * w ⟨c.val * 25 + k.val / 64, by omega⟩
    * W ⟨c.val * 1600 + k.val, by omega⟩

/-- The final layer's pair part at one output, over all 20800 lanes. -/
def pairPart (h : Fin 20800 → EReal) (w : Fin 325 → EReal) (W : Fin 20800 → EReal) : EReal :=
  ∑ k : Fin 20800, Ideal.tanh (h k) * w ⟨k.val / 64, by omega⟩ * W k

/-- The pair part is the sum of its 13 chunks. -/
theorem sum_chunks (h : Fin 20800 → EReal) (w : Fin 325 → EReal) (W : Fin 20800 → EReal) :
    ∑ c : Fin 13, chunk h w W c = pairPart h w W := by
  unfold chunk pairPart
  rw [Fin.sum_univ_tiles 13 1600 rfl]
  refine Finset.sum_congr rfl fun c _ => Finset.sum_congr rfl fun k _ => ?_
  have e : (⟨(c.val * 1600 + k.val) / 64, by omega⟩ : Fin 325) = ⟨c.val * 25 + k.val / 64, by omega⟩ :=
    Fin.ext (by simp only; omega)
  rw [e]

/-- A sum of 13 terms, written out. -/
theorem sum_13 (g : Fin 13 → EReal) : ∑ i : Fin 13, g i = g 0 + g 1 + g 2 + g 3 + g 4 + g 5 + g 6 + g 7 + g 8 + g 9 + g 10 + g 11 + g 12 := by
  simp only [Fin.sum_univ_castSucc, Fin.sum_univ_zero, zero_add]
  rfl

/-- A sum of 26 terms, written out. -/
theorem sum_26 (g : Fin 26 → EReal) : ∑ i : Fin 26, g i = g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 := by
  simp only [Fin.sum_univ_castSucc, Fin.sum_univ_zero, zero_add]
  rfl

/-- A sum against the indicator of one index is the term at that index. -/
theorem sum_pick {n : ℕ} (f : Fin n → EReal) (a : Fin n) (e : Fin n → EReal)
    (h1 : e a = 1) (h0 : ∀ j, j ≠ a → e j = 0) : ∑ j : Fin n, f j * e j = f a := by
  rw [Finset.sum_eq_single a (fun j _ hj => by rw [h0 j hj, mul_zero]) (fun h => absurd (Finset.mem_univ a) h), h1, mul_one]

/-- A double sum against the indicator of one pair of indices is the term at that pair. -/
theorem sum_pick₂ {n : ℕ} (f : Fin n → Fin n → EReal) (a b : Fin n) (e : Fin n → Fin n → EReal)
    (h1 : e a b = 1) (h0 : ∀ i j, ¬ (i = a ∧ j = b) → e i j = 0) : ∑ i : Fin n, ∑ j : Fin n, f i j * e i j = f a b := by
  rw [Finset.sum_eq_single a (fun i _ hi => Finset.sum_eq_zero fun j _ => by rw [h0 i j (fun h => hi h.1), mul_zero])
    (fun h => absurd (Finset.mem_univ a) h)]
  exact sum_pick (f a) b (e a) h1 fun j hj => h0 a j fun h => hj h.2

/-- A maximum whose running start is already below the largest element absorbs that start. -/
theorem max_peak (s : Fin 325 → EReal) : max floorVal (peak s) = peak s :=
  max_eq_right ((Finset.le_fold_max floorVal).2 (Or.inl le_rfl))

end Cert.Spec

end
-- ==== Proof.Rows.lean ====
/- What the second region's body computes, read at one row of its block: the payloads one by one, then the body's whole store. -/
module

public import proofs.«01_k».proof.Proof.Gen.KernelIdeal.Frame
public import proofs.«01_k».proof.Proof.Spec
public import Idealize.ShloMosaic.Lib.Pipeline.ValueKit
public import Idealize.ShloMosaic.Lib.Pointwise

@[expose] public section
set_option maxRecDepth 16384

noncomputable section

namespace Cert.KernelIdeal.Rows

open Idealize.ShloMosaic Idealize.ShloMosaic.TcCoe
open Cert.KernelIdeal Cert.KernelIdeal.Gen Cert.Spec

/-- Field `n`'s scores against every field, carried to the pairs by one plane of the selection table. -/
def plane (v1 v5 : FVec Ideal S128x26x64 .f32) (n : Fin 26) (s : FVec Ideal S1x26x325 .f32) (b : Fin 128) (p : Fin 325) : EReal :=
  ∑ j : Fin 26, (∑ d : Fin 64, v5 (ix3 b n d) * v1 (ix3 b j d)) * s (ix3 0 j p)

/-- The scores after fields 0 to 2. -/
theorem pay4_at (x : FVec Ideal S128x26x64 .f32) (w : FVec Ideal S1x1x64 .f32) (s0 s1 s2 : FVec Ideal S1x26x325 .f32)
    (b : Fin 128) (p : Fin 325) : k1_pay4 (F := Ideal) x w s0 s1 s2 (ix2 b p)
      = plane (k1_pay2 x) (k1_pay3 x w) 0 s0 b p + plane (k1_pay2 x) (k1_pay3 x w) 1 s1 b p + plane (k1_pay2 x) (k1_pay3 x w) 2 s2 b p := by
  pointwise! [k1_pay4, plane, k1_pay2, k1_pay3]

/-- The scores after fields 3 to 6. -/
theorem pay5_at (v1 v5 : FVec Ideal S128x26x64 .f32) (a : FVec Ideal S128x325 .f32) (s0 s1 s2 s3 : FVec Ideal S1x26x325 .f32)
    (b : Fin 128) (p : Fin 325) : k1_pay5 (F := Ideal) v1 v5 a s0 s1 s2 s3 (ix2 b p)
      = a (ix2 b p) + plane v1 v5 3 s0 b p + plane v1 v5 4 s1 b p + plane v1 v5 5 s2 b p + plane v1 v5 6 s3 b p := by
  pointwise! [k1_pay5, plane]

/-- The scores after fields 7 to 10. -/
theorem pay6_at (v1 v5 : FVec Ideal S128x26x64 .f32) (a : FVec Ideal S128x325 .f32) (s0 s1 s2 s3 : FVec Ideal S1x26x325 .f32)
    (b : Fin 128) (p : Fin 325) : k1_pay6 (F := Ideal) v1 v5 a s0 s1 s2 s3 (ix2 b p)
      = a (ix2 b p) + plane v1 v5 7 s0 b p + plane v1 v5 8 s1 b p + plane v1 v5 9 s2 b p + plane v1 v5 10 s3 b p := by
  pointwise! [k1_pay6, plane]

/-- The scores after fields 11 to 14. -/
theorem pay7_at (v1 v5 : FVec Ideal S128x26x64 .f32) (a : FVec Ideal S128x325 .f32) (s0 s1 s2 s3 : FVec Ideal S1x26x325 .f32)
    (b : Fin 128) (p : Fin 325) : k1_pay7 (F := Ideal) v1 v5 a s0 s1 s2 s3 (ix2 b p)
      = a (ix2 b p) + plane v1 v5 11 s0 b p + plane v1 v5 12 s1 b p + plane v1 v5 13 s2 b p + plane v1 v5 14 s3 b p := by
  pointwise! [k1_pay7, plane]

/-- The scores after fields 15 to 18. -/
theorem pay8_at (v1 v5 : FVec Ideal S128x26x64 .f32) (a : FVec Ideal S128x325 .f32) (s0 s1 s2 s3 : FVec Ideal S1x26x325 .f32)
    (b : Fin 128) (p : Fin 325) : k1_pay8 (F := Ideal) v1 v5 a s0 s1 s2 s3 (ix2 b p)
      = a (ix2 b p) + plane v1 v5 15 s0 b p + plane v1 v5 16 s1 b p + plane v1 v5 17 s2 b p + plane v1 v5 18 s3 b p := by
  pointwise! [k1_pay8, plane]

/-- The scores after fields 19 to 22. -/
theorem pay9_at (v1 v5 : FVec Ideal S128x26x64 .f32) (a : FVec Ideal S128x325 .f32) (s0 s1 s2 s3 : FVec Ideal S1x26x325 .f32)
    (b : Fin 128) (p : Fin 325) : k1_pay9 (F := Ideal) v1 v5 a s0 s1 s2 s3 (ix2 b p)
      = a (ix2 b p) + plane v1 v5 19 s0 b p + plane v1 v5 20 s1 b p + plane v1 v5 21 s2 b p + plane v1 v5 22 s3 b p := by
  pointwise! [k1_pay9, plane]

/-- The softmax of the scores after fields 23 to 25. -/
theorem pay10_at (v1 v5 : FVec Ideal S128x26x64 .f32) (a : FVec Ideal S128x325 .f32) (s0 s1 s2 : FVec Ideal S1x26x325 .f32)
    (b : Fin 128) (p : Fin 325) : k1_pay10 (F := Ideal) v1 v5 a s0 s1 s2 (ix2 b p)
      = soft (fun q => a (ix2 b q) + plane v1 v5 23 s0 b q + plane v1 v5 24 s1 b q + plane v1 v5 25 s2 b q) p := by
  pointwise! [k1_pay10, plane, soft, peak, floorVal]

/-- One chunk of the final layer's pair part as the body computes it: the pair weights are spread over the lanes by the
    spreading table. `h`, `W` are the chunk's features and its rows of the layer's matrix, `c` the chunk's number. -/
def bodyChunk (w : FVec Ideal S128x325 .f32) (rep : FVec Ideal S25x1600 .f32) (h : FVec Ideal S128x1600 .f32)
    (W : FVec Ideal S1600x256 .f32) (c : Fin 13) (b : Fin 128) (o : Fin 256) : EReal :=
  ∑ k : Fin 1600, Ideal.tanh (h (ix2 b k)) * (∑ q : Fin 25, w (ix2 b ⟨c.val * 25 + q.val, by omega⟩) * rep (ix2 q k)) * W (ix2 k o)

/-- The accumulator after the embedding part and chunks 0 to 2. -/
theorem pay13_at (w : FVec Ideal S128x325 .f32) (x : FVec Ideal S128x1664 .f32) (wo : FVec Ideal S1664x256 .f32)
    (rep : FVec Ideal S25x1600 .f32) (h0 h1 h2 : FVec Ideal S128x1600 .f32) (w0 w1 w2 : FVec Ideal S1600x256 .f32)
    (b : Fin 128) (o : Fin 256) : k1_pay13 (F := Ideal) w x wo rep h0 w0 h1 w1 h2 w2 (ix2 b o)
      = (∑ k : Fin 1664, x (ix2 b k) * wo (ix2 k o)) + bodyChunk w rep h0 w0 0 b o + bodyChunk w rep h1 w1 1 b o
        + bodyChunk w rep h2 w2 2 b o := by
  pointwise [k1_pay13, k1_pay12, bodyChunk]

/-- The accumulator after chunks 3 to 5. -/
theorem pay15_at (w : FVec Ideal S128x325 .f32) (rep : FVec Ideal S25x1600 .f32) (a : FVec Ideal S128x256 .f32)
    (h0 h1 h2 : FVec Ideal S128x1600 .f32) (w0 w1 w2 : FVec Ideal S1600x256 .f32)
    (b : Fin 128) (o : Fin 256) : k1_pay15 (F := Ideal) w rep a (k1_pay14 w) (constant S128x1600 .f32 0x00000000#32) h0 w0 h1 w1 h2 w2 (ix2 b o)
      = a (ix2 b o) + bodyChunk w rep h0 w0 3 b o + bodyChunk w rep h1 w1 4 b o + bodyChunk w rep h2 w2 5 b o := by
  pointwise [k1_pay15, k1_pay14, bodyChunk]

/-- The accumulator after chunks 6 to 9. -/
theorem pay18_at (w : FVec Ideal S128x325 .f32) (rep : FVec Ideal S25x1600 .f32) (a : FVec Ideal S128x256 .f32)
    (h h0 h1 h2 : FVec Ideal S128x1600 .f32) (w' w0 w1 w2 : FVec Ideal S1600x256 .f32)
    (b : Fin 128) (o : Fin 256) : k1_pay18 (F := Ideal) w rep a (k1_pay16 w rep h) (k1_pay17 w') (constant S128x256 .f32 0x00000000#32) h0 w0 h1 w1 h2 w2 (ix2 b o)
      = a (ix2 b o) + bodyChunk w rep h w' 6 b o + bodyChunk w rep h0 w0 7 b o + bodyChunk w rep h1 w1 8 b o
        + bodyChunk w rep h2 w2 9 b o := by
  pointwise [k1_pay18, k1_pay16, k1_pay17, bodyChunk]

/-- The stored block: chunks 10 to 12 and the bias. -/
theorem pay1_at (w : FVec Ideal S128x325 .f32) (rep : FVec Ideal S25x1600 .f32) (a : FVec Ideal S128x256 .f32)
    (h0 h1 h2 : FVec Ideal S128x1600 .f32) (w0 w1 w2 : FVec Ideal S1600x256 .f32) (bo : FVec Ideal S1x256 .f32)
    (b : Fin 128) (o : Fin 256) : k1_pay1 (F := Ideal) w rep a (k1_pay19 w rep h0) w0 h1 w1 h2 w2 bo (ix2 b o)
      = a (ix2 b o) + bodyChunk w rep h0 w0 10 b o + bodyChunk w rep h1 w1 11 b o + bodyChunk w rep h2 w2 12 b o
        + bo (ix2 0 o) := by
  pointwise [k1_pay1, k1_pay19, bodyChunk]

/-- With the spreading table the indicator of a lane's pair, a chunk is the specification's. -/
theorem bodyChunk_eq (w : FVec Ideal S128x325 .f32) (rep : FVec Ideal S25x1600 .f32) (h : FVec Ideal S128x1600 .f32)
    (W : FVec Ideal S1600x256 .f32) (c : Fin 13) (b : Fin 128) (o : Fin 256) (H : Fin 20800 → EReal) (C : Fin 20800 → EReal)
    (hrep : ∀ (q : Fin 25) (k : Fin 1600), rep (ix2 q k) = if k.val / 64 = q.val then 1 else 0)
    (hh : ∀ k : Fin 1600, h (ix2 b k) = H ⟨c.val * 1600 + k.val, by omega⟩)
    (hW : ∀ k : Fin 1600, W (ix2 k o) = C ⟨c.val * 1600 + k.val, by omega⟩) :
    bodyChunk w rep h W c b o = chunk H (fun p => w (ix2 b p)) C c := by
  unfold bodyChunk chunk
  refine Finset.sum_congr rfl fun k _ => ?_
  rw [hh, hW]
  refine congrArg₂ (· * ·) (congrArg₂ (· * ·) rfl ?_) rfl
  exact sum_pick (fun q : Fin 25 => w (ix2 b ⟨c.val * 25 + q.val, by omega⟩)) ⟨k.val / 64, by omega⟩ (fun q => rep (ix2 q k))
    (by rw [hrep, if_pos rfl]) (fun q hq => by rw [hrep, if_neg fun e => hq (Fin.ext e.symm)])

/-- A plane loaded from the selection table, at its field. -/
theorem plane_eq (v1 v5 : FVec Ideal S128x26x64 .f32) (n : Fin 26) (s : FVec Ideal S1x26x325 .f32) (S : FVec Ideal S26x26x325 .f32)
    (b : Fin 128) (p : Fin 325) (hs : ∀ (j : Fin 26) (q : Fin 325), s (ix3 0 j q) = S (ix3 n j q)) :
    plane v1 v5 n s b p = ∑ j : Fin 26, (∑ d : Fin 64, v5 (ix3 b n d) * v1 (ix3 b j d)) * S (ix3 n j p) := by
  unfold plane
  exact Finset.sum_congr rfl fun j _ => by rw [hs]

end Cert.KernelIdeal.Rows

end
-- ==== Proof.RowsOut.lean ====
/- The second region's stored block at one row and output, in the model's arithmetic. -/
module

public import proofs.«01_k».proof.Proof.Rows

@[expose] public section
set_option maxRecDepth 16384

noncomputable section

namespace Cert.KernelIdeal.Rows

open Idealize.ShloMosaic Idealize.ShloMosaic.TcCoe
open Cert.KernelIdeal Cert.KernelIdeal.Gen Cert.Spec

/-- The scores as the body sums them: over every pair of fields, against the selection table. -/
def scoreSum (x0 : Vec Ideal S128x26x64 .f32) (x5 : Vec Ideal S1x1x64 .f32) (x6 : Vec Ideal S26x26x325 .f32)
    (b : Fin 128) (p : Fin 325) : EReal :=
  ∑ i : Fin 26, ∑ j : Fin 26, (∑ d : Fin 64, k1_pay3 (F := Ideal) x0 x5 (ix3 b i d) * k1_pay2 (F := Ideal) x0 (ix3 b j d)) * x6 (ix3 i j p)

/-- The pair weights of a row: the softmax of its scores. -/
theorem weights_at (x0 : Vec Ideal S128x26x64 .f32) (x1 : Vec Ideal S128x1664 .f32) (x2 : Vec Ideal S128x20800 .f32)
    (x3 : Vec Ideal S1664x256 .f32) (x4 : Vec Ideal S20800x256 .f32) (x5 : Vec Ideal S1x1x64 .f32)
    (x6 : Vec Ideal S26x26x325 .f32) (x7 : Vec Ideal S25x1600 .f32) (x8 : Vec Ideal S1x256 .f32) (b : Fin 128) (p : Fin 325) :
    k1_pay22 (F := Ideal) x0 x1 x2 x3 x4 x5 x6 x7 x8 (ix2 b p) = soft (scoreSum x0 x5 x6 b) p := by
  unfold k1_pay22 k1_pay21 k1_pay20
  rw [pay10_at]
  refine congrArg (fun s => soft s p) (funext fun q => ?_)
  rw [pay9_at, pay8_at, pay7_at, pay6_at, pay5_at, pay4_at]
  have e0 : View.ld (Val := Elt Ideal) (e' := .f32) x0 r1_0 = x0 := View.ld_unit_lit (S := S128x26x64) (off := ![0, 0, 0]) _ x0 (by decide)
  have e5 : View.ld (Val := Elt Ideal) (e' := .f32) x5 r1_1 = x5 := View.ld_unit_lit (S := S1x1x64) (off := ![0, 0, 0]) _ x5 (by decide)
  have s0 : ∀ (j : Fin 26) (q : Fin 325), View.ld (Val := Elt Ideal) (e' := .f32) x6 r1_2 (ix3 0 j q) = x6 (ix3 0 j q) := fun j q => by
    pointwise
  have s1 : ∀ (j : Fin 26) (q : Fin 325), View.ld (Val := Elt Ideal) (e' := .f32) x6 r1_3 (ix3 0 j q) = x6 (ix3 1 j q) := fun j q => by
    pointwise
  have s2 : ∀ (j : Fin 26) (q : Fin 325), View.ld (Val := Elt Ideal) (e' := .f32) x6 r1_4 (ix3 0 j q) = x6 (ix3 2 j q) := fun j q => by
    pointwise
  have s3 : ∀ (j : Fin 26) (q : Fin 325), View.ld (Val := Elt Ideal) (e' := .f32) x6 r1_5 (ix3 0 j q) = x6 (ix3 3 j q) := fun j q => by
    pointwise
  have s4 : ∀ (j : Fin 26) (q : Fin 325), View.ld (Val := Elt Ideal) (e' := .f32) x6 r1_6 (ix3 0 j q) = x6 (ix3 4 j q) := fun j q => by
    pointwise
  have s5 : ∀ (j : Fin 26) (q : Fin 325), View.ld (Val := Elt Ideal) (e' := .f32) x6 r1_7 (ix3 0 j q) = x6 (ix3 5 j q) := fun j q => by
    pointwise
  have s6 : ∀ (j : Fin 26) (q : Fin 325), View.ld (Val := Elt Ideal) (e' := .f32) x6 r1_8 (ix3 0 j q) = x6 (ix3 6 j q) := fun j q => by
    pointwise
  have s7 : ∀ (j : Fin 26) (q : Fin 325), View.ld (Val := Elt Ideal) (e' := .f32) x6 r1_9 (ix3 0 j q) = x6 (ix3 7 j q) := fun j q => by
    pointwise
  have s8 : ∀ (j : Fin 26) (q : Fin 325), View.ld (Val := Elt Ideal) (e' := .f32) x6 r1_10 (ix3 0 j q) = x6 (ix3 8 j q) := fun j q => by
    pointwise
  have s9 : ∀ (j : Fin 26) (q : Fin 325), View.ld (Val := Elt Ideal) (e' := .f32) x6 r1_11 (ix3 0 j q) = x6 (ix3 9 j q) := fun j q => by
    pointwise
  have s10 : ∀ (j : Fin 26) (q : Fin 325), View.ld (Val := Elt Ideal) (e' := .f32) x6 r1_12 (ix3 0 j q) = x6 (ix3 10 j q) := fun j q => by
    pointwise
  have s11 : ∀ (j : Fin 26) (q : Fin 325), View.ld (Val := Elt Ideal) (e' := .f32) x6 r1_13 (ix3 0 j q) = x6 (ix3 11 j q) := fun j q => by
    pointwise
  have s12 : ∀ (j : Fin 26) (q : Fin 325), View.ld (Val := Elt Ideal) (e' := .f32) x6 r1_14 (ix3 0 j q) = x6 (ix3 12 j q) := fun j q => by
    pointwise
  have s13 : ∀ (j : Fin 26) (q : Fin 325), View.ld (Val := Elt Ideal) (e' := .f32) x6 r1_15 (ix3 0 j q) = x6 (ix3 13 j q) := fun j q => by
    pointwise
  have s14 : ∀ (j : Fin 26) (q : Fin 325), View.ld (Val := Elt Ideal) (e' := .f32) x6 r1_16 (ix3 0 j q) = x6 (ix3 14 j q) := fun j q => by
    pointwise
  have s15 : ∀ (j : Fin 26) (q : Fin 325), View.ld (Val := Elt Ideal) (e' := .f32) x6 r1_17 (ix3 0 j q) = x6 (ix3 15 j q) := fun j q => by
    pointwise
  have s16 : ∀ (j : Fin 26) (q : Fin 325), View.ld (Val := Elt Ideal) (e' := .f32) x6 r1_18 (ix3 0 j q) = x6 (ix3 16 j q) := fun j q => by
    pointwise
  have s17 : ∀ (j : Fin 26) (q : Fin 325), View.ld (Val := Elt Ideal) (e' := .f32) x6 r1_19 (ix3 0 j q) = x6 (ix3 17 j q) := fun j q => by
    pointwise
  have s18 : ∀ (j : Fin 26) (q : Fin 325), View.ld (Val := Elt Ideal) (e' := .f32) x6 r1_20 (ix3 0 j q) = x6 (ix3 18 j q) := fun j q => by
    pointwise
  have s19 : ∀ (j : Fin 26) (q : Fin 325), View.ld (Val := Elt Ideal) (e' := .f32) x6 r1_21 (ix3 0 j q) = x6 (ix3 19 j q) := fun j q => by
    pointwise
  have s20 : ∀ (j : Fin 26) (q : Fin 325), View.ld (Val := Elt Ideal) (e' := .f32) x6 r1_22 (ix3 0 j q) = x6 (ix3 20 j q) := fun j q => by
    pointwise
  have s21 : ∀ (j : Fin 26) (q : Fin 325), View.ld (Val := Elt Ideal) (e' := .f32) x6 r1_23 (ix3 0 j q) = x6 (ix3 21 j q) := fun j q => by
    pointwise
  have s22 : ∀ (j : Fin 26) (q : Fin 325), View.ld (Val := Elt Ideal) (e' := .f32) x6 r1_24 (ix3 0 j q) = x6 (ix3 22 j q) := fun j q => by
    pointwise
  have s23 : ∀ (j : Fin 26) (q : Fin 325), View.ld (Val := Elt Ideal) (e' := .f32) x6 r1_25 (ix3 0 j q) = x6 (ix3 23 j q) := fun j q => by
    pointwise
  have s24 : ∀ (j : Fin 26) (q : Fin 325), View.ld (Val := Elt Ideal) (e' := .f32) x6 r1_26 (ix3 0 j q) = x6 (ix3 24 j q) := fun j q => by
    pointwise
  have s25 : ∀ (j : Fin 26) (q : Fin 325), View.ld (Val := Elt Ideal) (e' := .f32) x6 r1_27 (ix3 0 j q) = x6 (ix3 25 j q) := fun j q => by
    pointwise
  rw [e0, e5, plane_eq _ _ 0 _ x6 b q s0, plane_eq _ _ 1 _ x6 b q s1, plane_eq _ _ 2 _ x6 b q s2, plane_eq _ _ 3 _ x6 b q s3, plane_eq _ _ 4 _ x6 b q s4, plane_eq _ _ 5 _ x6 b q s5, plane_eq _ _ 6 _ x6 b q s6, plane_eq _ _ 7 _ x6 b q s7, plane_eq _ _ 8 _ x6 b q s8, plane_eq _ _ 9 _ x6 b q s9, plane_eq _ _ 10 _ x6 b q s10, plane_eq _ _ 11 _ x6 b q s11, plane_eq _ _ 12 _ x6 b q s12, plane_eq _ _ 13 _ x6 b q s13, plane_eq _ _ 14 _ x6 b q s14, plane_eq _ _ 15 _ x6 b q s15, plane_eq _ _ 16 _ x6 b q s16, plane_eq _ _ 17 _ x6 b q s17, plane_eq _ _ 18 _ x6 b q s18, plane_eq _ _ 19 _ x6 b q s19, plane_eq _ _ 20 _ x6 b q s20, plane_eq _ _ 21 _ x6 b q s21, plane_eq _ _ 22 _ x6 b q s22, plane_eq _ _ 23 _ x6 b q s23, plane_eq _ _ 24 _ x6 b q s24, plane_eq _ _ 25 _ x6 b q s25]
  unfold scoreSum
  exact (sum_26 fun i : Fin 26 => ∑ j : Fin 26,
    (∑ d : Fin 64, k1_pay3 (F := Ideal) x0 x5 (ix3 b i d) * k1_pay2 (F := Ideal) x0 (ix3 b j d)) * x6 (ix3 i j q)).symm

set_option maxHeartbeats 1000000 in
/-- The stored block at row `b` and output `o`: the embedding part, the pair part and the bias. The selection and spreading tables
    are general but for the spreading table's being the indicator of a lane's pair. -/
theorem out_at (x0 : Vec Ideal S128x26x64 .f32) (x1 : Vec Ideal S128x1664 .f32) (x2 : Vec Ideal S128x20800 .f32)
    (x3 : Vec Ideal S1664x256 .f32) (x4 : Vec Ideal S20800x256 .f32) (x5 : Vec Ideal S1x1x64 .f32)
    (x6 : Vec Ideal S26x26x325 .f32) (x7 : Vec Ideal S25x1600 .f32) (x8 : Vec Ideal S1x256 .f32)
    (hrep : ∀ (q : Fin 25) (k : Fin 1600), x7 (ix2 q k) = if k.val / 64 = q.val then (1 : EReal) else 0) (b : Fin 128) (o : Fin 256) :
    out1_9 (F := Ideal) x0 x1 x2 x3 x4 x5 x6 x7 x8 (ix2 b o)
      = (∑ k : Fin 1664, x1 (ix2 b k) * x3 (ix2 k o))
        + pairPart (fun k => x2 (ix2 b k)) (fun p => soft (scoreSum x0 x5 x6 b) p) (fun k => x4 (ix2 k o))
        + x8 (ix2 0 o) := by
  have ew : (fun p => k1_pay22 (F := Ideal) x0 x1 x2 x3 x4 x5 x6 x7 x8 (ix2 b p)) = fun p => soft (scoreSum x0 x5 x6 b) p :=
    funext fun p => weights_at x0 x1 x2 x3 x4 x5 x6 x7 x8 b p
  rw [← ew]
  unfold out1_9 k1_pay23
  generalize k1_pay22 (F := Ideal) x0 x1 x2 x3 x4 x5 x6 x7 x8 = w
  frame_out
  have er : k1_pay12 (F := Ideal) x7 = x7 := by
    funext i
    idx_vars i
    pointwise [k1_pay12]
  rw [er]
  have h0 : ∀ k : Fin 1600, View.ld (Val := Elt Ideal) (e' := .f32) x2 r1_31 (ix2 b k) = x2 (ix2 b ⟨((0 : Fin 13)).val * 1600 + k.val, by omega⟩) := fun k =>
    View.ld_unit_apply_of x2 _ _ _ _ _ (Fin.forall_fin_two.2 ⟨(Nat.zero_add _).symm, rfl⟩)
  have w0 : ∀ k : Fin 1600, View.ld (Val := Elt Ideal) (e' := .f32) x4 r1_32 (ix2 k o) = x4 (ix2 ⟨((0 : Fin 13)).val * 1600 + k.val, by omega⟩ o) := fun k =>
    View.ld_unit_apply_of x4 _ _ _ _ _ (Fin.forall_fin_two.2 ⟨rfl, (Nat.zero_add _).symm⟩)
  have h1 : ∀ k : Fin 1600, View.ld (Val := Elt Ideal) (e' := .f32) x2 r1_33 (ix2 b k) = x2 (ix2 b ⟨((1 : Fin 13)).val * 1600 + k.val, by omega⟩) := fun k =>
    View.ld_unit_apply_of x2 _ _ _ _ _ (Fin.forall_fin_two.2 ⟨(Nat.zero_add _).symm, rfl⟩)
  have w1 : ∀ k : Fin 1600, View.ld (Val := Elt Ideal) (e' := .f32) x4 r1_34 (ix2 k o) = x4 (ix2 ⟨((1 : Fin 13)).val * 1600 + k.val, by omega⟩ o) := fun k =>
    View.ld_unit_apply_of x4 _ _ _ _ _ (Fin.forall_fin_two.2 ⟨rfl, (Nat.zero_add _).symm⟩)
  have h2 : ∀ k : Fin 1600, View.ld (Val := Elt Ideal) (e' := .f32) x2 r1_35 (ix2 b k) = x2 (ix2 b ⟨((2 : Fin 13)).val * 1600 + k.val, by omega⟩) := fun k =>
    View.ld_unit_apply_of x2 _ _ _ _ _ (Fin.forall_fin_two.2 ⟨(Nat.zero_add _).symm, rfl⟩)
  have w2 : ∀ k : Fin 1600, View.ld (Val := Elt Ideal) (e' := .f32) x4 r1_36 (ix2 k o) = x4 (ix2 ⟨((2 : Fin 13)).val * 1600 + k.val, by omega⟩ o) := fun k =>
    View.ld_unit_apply_of x4 _ _ _ _ _ (Fin.forall_fin_two.2 ⟨rfl, (Nat.zero_add _).symm⟩)
  have h3 : ∀ k : Fin 1600, View.ld (Val := Elt Ideal) (e' := .f32) x2 r1_37 (ix2 b k) = x2 (ix2 b ⟨((3 : Fin 13)).val * 1600 + k.val, by omega⟩) := fun k =>
    View.ld_unit_apply_of x2 _ _ _ _ _ (Fin.forall_fin_two.2 ⟨(Nat.zero_add _).symm, rfl⟩)
  have w3 : ∀ k : Fin 1600, View.ld (Val := Elt Ideal) (e' := .f32) x4 r1_38 (ix2 k o) = x4 (ix2 ⟨((3 : Fin 13)).val * 1600 + k.val, by omega⟩ o) := fun k =>
    View.ld_unit_apply_of x4 _ _ _ _ _ (Fin.forall_fin_two.2 ⟨rfl, (Nat.zero_add _).symm⟩)
  have h4 : ∀ k : Fin 1600, View.ld (Val := Elt Ideal) (e' := .f32) x2 r1_39 (ix2 b k) = x2 (ix2 b ⟨((4 : Fin 13)).val * 1600 + k.val, by omega⟩) := fun k =>
    View.ld_unit_apply_of x2 _ _ _ _ _ (Fin.forall_fin_two.2 ⟨(Nat.zero_add _).symm, rfl⟩)
  have w4 : ∀ k : Fin 1600, View.ld (Val := Elt Ideal) (e' := .f32) x4 r1_40 (ix2 k o) = x4 (ix2 ⟨((4 : Fin 13)).val * 1600 + k.val, by omega⟩ o) := fun k =>
    View.ld_unit_apply_of x4 _ _ _ _ _ (Fin.forall_fin_two.2 ⟨rfl, (Nat.zero_add _).symm⟩)
  have h5 : ∀ k : Fin 1600, View.ld (Val := Elt Ideal) (e' := .f32) x2 r1_41 (ix2 b k) = x2 (ix2 b ⟨((5 : Fin 13)).val * 1600 + k.val, by omega⟩) := fun k =>
    View.ld_unit_apply_of x2 _ _ _ _ _ (Fin.forall_fin_two.2 ⟨(Nat.zero_add _).symm, rfl⟩)
  have w5 : ∀ k : Fin 1600, View.ld (Val := Elt Ideal) (e' := .f32) x4 r1_42 (ix2 k o) = x4 (ix2 ⟨((5 : Fin 13)).val * 1600 + k.val, by omega⟩ o) := fun k =>
    View.ld_unit_apply_of x4 _ _ _ _ _ (Fin.forall_fin_two.2 ⟨rfl, (Nat.zero_add _).symm⟩)
  have h6 : ∀ k : Fin 1600, View.ld (Val := Elt Ideal) (e' := .f32) x2 r1_43 (ix2 b k) = x2 (ix2 b ⟨((6 : Fin 13)).val * 1600 + k.val, by omega⟩) := fun k =>
    View.ld_unit_apply_of x2 _ _ _ _ _ (Fin.forall_fin_two.2 ⟨(Nat.zero_add _).symm, rfl⟩)
  have w6 : ∀ k : Fin 1600, View.ld (Val := Elt Ideal) (e' := .f32) x4 r1_44 (ix2 k o) = x4 (ix2 ⟨((6 : Fin 13)).val * 1600 + k.val, by omega⟩ o) := fun k =>
    View.ld_unit_apply_of x4 _ _ _ _ _ (Fin.forall_fin_two.2 ⟨rfl, (Nat.zero_add _).symm⟩)
  have h7 : ∀ k : Fin 1600, View.ld (Val := Elt Ideal) (e' := .f32) x2 r1_45 (ix2 b k) = x2 (ix2 b ⟨((7 : Fin 13)).val * 1600 + k.val, by omega⟩) := fun k =>
    View.ld_unit_apply_of x2 _ _ _ _ _ (Fin.forall_fin_two.2 ⟨(Nat.zero_add _).symm, rfl⟩)
  have w7 : ∀ k : Fin 1600, View.ld (Val := Elt Ideal) (e' := .f32) x4 r1_46 (ix2 k o) = x4 (ix2 ⟨((7 : Fin 13)).val * 1600 + k.val, by omega⟩ o) := fun k =>
    View.ld_unit_apply_of x4 _ _ _ _ _ (Fin.forall_fin_two.2 ⟨rfl, (Nat.zero_add _).symm⟩)
  have h8 : ∀ k : Fin 1600, View.ld (Val := Elt Ideal) (e' := .f32) x2 r1_47 (ix2 b k) = x2 (ix2 b ⟨((8 : Fin 13)).val * 1600 + k.val, by omega⟩) := fun k =>
    View.ld_unit_apply_of x2 _ _ _ _ _ (Fin.forall_fin_two.2 ⟨(Nat.zero_add _).symm, rfl⟩)
  have w8 : ∀ k : Fin 1600, View.ld (Val := Elt Ideal) (e' := .f32) x4 r1_48 (ix2 k o) = x4 (ix2 ⟨((8 : Fin 13)).val * 1600 + k.val, by omega⟩ o) := fun k =>
    View.ld_unit_apply_of x4 _ _ _ _ _ (Fin.forall_fin_two.2 ⟨rfl, (Nat.zero_add _).symm⟩)
  have h9 : ∀ k : Fin 1600, View.ld (Val := Elt Ideal) (e' := .f32) x2 r1_49 (ix2 b k) = x2 (ix2 b ⟨((9 : Fin 13)).val * 1600 + k.val, by omega⟩) := fun k =>
    View.ld_unit_apply_of x2 _ _ _ _ _ (Fin.forall_fin_two.2 ⟨(Nat.zero_add _).symm, rfl⟩)
  have w9 : ∀ k : Fin 1600, View.ld (Val := Elt Ideal) (e' := .f32) x4 r1_50 (ix2 k o) = x4 (ix2 ⟨((9 : Fin 13)).val * 1600 + k.val, by omega⟩ o) := fun k =>
    View.ld_unit_apply_of x4 _ _ _ _ _ (Fin.forall_fin_two.2 ⟨rfl, (Nat.zero_add _).symm⟩)
  have h10 : ∀ k : Fin 1600, View.ld (Val := Elt Ideal) (e' := .f32) x2 r1_51 (ix2 b k) = x2 (ix2 b ⟨((10 : Fin 13)).val * 1600 + k.val, by omega⟩) := fun k =>
    View.ld_unit_apply_of x2 _ _ _ _ _ (Fin.forall_fin_two.2 ⟨(Nat.zero_add _).symm, rfl⟩)
  have w10 : ∀ k : Fin 1600, View.ld (Val := Elt Ideal) (e' := .f32) x4 r1_52 (ix2 k o) = x4 (ix2 ⟨((10 : Fin 13)).val * 1600 + k.val, by omega⟩ o) := fun k =>
    View.ld_unit_apply_of x4 _ _ _ _ _ (Fin.forall_fin_two.2 ⟨rfl, (Nat.zero_add _).symm⟩)
  have h11 : ∀ k : Fin 1600, View.ld (Val := Elt Ideal) (e' := .f32) x2 r1_53 (ix2 b k) = x2 (ix2 b ⟨((11 : Fin 13)).val * 1600 + k.val, by omega⟩) := fun k =>
    View.ld_unit_apply_of x2 _ _ _ _ _ (Fin.forall_fin_two.2 ⟨(Nat.zero_add _).symm, rfl⟩)
  have w11 : ∀ k : Fin 1600, View.ld (Val := Elt Ideal) (e' := .f32) x4 r1_54 (ix2 k o) = x4 (ix2 ⟨((11 : Fin 13)).val * 1600 + k.val, by omega⟩ o) := fun k =>
    View.ld_unit_apply_of x4 _ _ _ _ _ (Fin.forall_fin_two.2 ⟨rfl, (Nat.zero_add _).symm⟩)
  have h12 : ∀ k : Fin 1600, View.ld (Val := Elt Ideal) (e' := .f32) x2 r1_55 (ix2 b k) = x2 (ix2 b ⟨((12 : Fin 13)).val * 1600 + k.val, by omega⟩) := fun k =>
    View.ld_unit_apply_of x2 _ _ _ _ _ (Fin.forall_fin_two.2 ⟨(Nat.zero_add _).symm, rfl⟩)
  have w12 : ∀ k : Fin 1600, View.ld (Val := Elt Ideal) (e' := .f32) x4 r1_56 (ix2 k o) = x4 (ix2 ⟨((12 : Fin 13)).val * 1600 + k.val, by omega⟩ o) := fun k =>
    View.ld_unit_apply_of x4 _ _ _ _ _ (Fin.forall_fin_two.2 ⟨rfl, (Nat.zero_add _).symm⟩)
  have e1 : ∀ k : Fin 1664, k1_pay11 (F := Ideal) x1 (ix2 b k) = x1 (ix2 b k) := fun k => by
    pointwise [k1_pay11]
  rw [pay1_at, pay18_at, pay15_at, pay13_at,
    bodyChunk_eq w x7 _ _ 0 b o (fun k => x2 (ix2 b k)) (fun k => x4 (ix2 k o)) hrep h0 w0,
    bodyChunk_eq w x7 _ _ 1 b o (fun k => x2 (ix2 b k)) (fun k => x4 (ix2 k o)) hrep h1 w1,
    bodyChunk_eq w x7 _ _ 2 b o (fun k => x2 (ix2 b k)) (fun k => x4 (ix2 k o)) hrep h2 w2,
    bodyChunk_eq w x7 _ _ 3 b o (fun k => x2 (ix2 b k)) (fun k => x4 (ix2 k o)) hrep h3 w3,
    bodyChunk_eq w x7 _ _ 4 b o (fun k => x2 (ix2 b k)) (fun k => x4 (ix2 k o)) hrep h4 w4,
    bodyChunk_eq w x7 _ _ 5 b o (fun k => x2 (ix2 b k)) (fun k => x4 (ix2 k o)) hrep h5 w5,
    bodyChunk_eq w x7 _ _ 6 b o (fun k => x2 (ix2 b k)) (fun k => x4 (ix2 k o)) hrep h6 w6,
    bodyChunk_eq w x7 _ _ 7 b o (fun k => x2 (ix2 b k)) (fun k => x4 (ix2 k o)) hrep h7 w7,
    bodyChunk_eq w x7 _ _ 8 b o (fun k => x2 (ix2 b k)) (fun k => x4 (ix2 k o)) hrep h8 w8,
    bodyChunk_eq w x7 _ _ 9 b o (fun k => x2 (ix2 b k)) (fun k => x4 (ix2 k o)) hrep h9 w9,
    bodyChunk_eq w x7 _ _ 10 b o (fun k => x2 (ix2 b k)) (fun k => x4 (ix2 k o)) hrep h10 w10,
    bodyChunk_eq w x7 _ _ 11 b o (fun k => x2 (ix2 b k)) (fun k => x4 (ix2 k o)) hrep h11 w11,
    bodyChunk_eq w x7 _ _ 12 b o (fun k => x2 (ix2 b k)) (fun k => x4 (ix2 k o)) hrep h12 w12]
  rw [← sum_chunks, sum_13]
  simp only [add_assoc, e1]

end Cert.KernelIdeal.Rows

end
-- ==== Proof.RowsAll.lean ====
/- The second region's result array as one function of its input arrays, row by row. -/
module

public import proofs.«01_k».proof.Proof.RowsOut

@[expose] public section
set_option maxRecDepth 16384

noncomputable section

namespace Cert.KernelIdeal.Rows

open Idealize.ShloMosaic Idealize.ShloMosaic.TcCoe Idealize.SL.Sem
open Idealize.ShloMosaic.Pipeline (Dat)
open Cert.KernelIdeal Cert.KernelIdeal.Gen Cert.Spec

/-- The selection table picks out each pair's score. -/
theorem scoreSum_eq (x0 : Vec Ideal S128x26x64 .f32) (x5 : Vec Ideal S1x1x64 .f32) (x6 : Vec Ideal S26x26x325 .f32)
    (pi pj : Fin 325 → Fin 26) (h1 : ∀ p, x6 (ix3 (pi p) (pj p) p) = (1 : EReal))
    (h0 : ∀ i j p, ¬ (i = pi p ∧ j = pj p) → x6 (ix3 i j p) = (0 : EReal)) (b : Fin 128) (p : Fin 325) :
    scoreSum x0 x5 x6 b p = score (fun i d => x0 (ix3 b i d)) (fun d => x5 (ix3 0 0 d)) (pi p) (pj p) := by
  unfold scoreSum score
  rw [sum_pick₂ (fun i j => ∑ d : Fin 64, k1_pay3 (F := Ideal) x0 x5 (ix3 b i d) * k1_pay2 (F := Ideal) x0 (ix3 b j d))
    (pi p) (pj p) (fun i j => x6 (ix3 i j p)) (h1 p) (fun i j h => h0 i j p h)]
  refine Finset.sum_congr rfl fun d _ => ?_
  have e : k1_pay3 (F := Ideal) x0 x5 (ix3 b (pi p) d) * k1_pay2 (F := Ideal) x0 (ix3 b (pj p) d)
      = x0 (ix3 b (pi p) d) * x5 (ix3 0 0 d) * x0 (ix3 b (pj p) d) := by
    pointwise [k1_pay2, k1_pay3]
  exact e.trans (mul_right_comm _ _ _)

/-- One entry of the model's result from the six arrays it is computed from: embeddings, features, the layer's two parts, the
    attention weights, the bias. -/
def entry (pi pj : Fin 325 → Fin 26) (E : Fin 26 → Fin 64 → EReal) (E' : Fin 1664 → EReal) (H : Fin 20800 → EReal)
    (wa : Fin 64 → EReal) (W : Fin 1664 → EReal) (W' : Fin 20800 → EReal) (bo : EReal) : EReal :=
  (∑ k : Fin 1664, E' k * W k) + pairPart H (fun p => soft (fun q => score E wa (pi q) (pj q)) p) W' + bo

/-- The stored block at row `b` and output `o` is the model's entry. -/
theorem block_entry (pi pj : Fin 325 → Fin 26) (x0 : Vec Ideal S128x26x64 .f32) (x1 : Vec Ideal S128x1664 .f32)
    (x2 : Vec Ideal S128x20800 .f32) (x3 : Vec Ideal S1664x256 .f32) (x4 : Vec Ideal S20800x256 .f32) (x5 : Vec Ideal S1x1x64 .f32)
    (x6 : Vec Ideal S26x26x325 .f32) (x7 : Vec Ideal S25x1600 .f32) (x8 : Vec Ideal S1x256 .f32)
    (h1 : ∀ p, x6 (ix3 (pi p) (pj p) p) = (1 : EReal))
    (h0 : ∀ i j p, ¬ (i = pi p ∧ j = pj p) → x6 (ix3 i j p) = (0 : EReal))
    (hrep : ∀ (q : Fin 25) (k : Fin 1600), x7 (ix2 q k) = if k.val / 64 = q.val then (1 : EReal) else 0)
    (b : Fin 128) (o : Fin 256) :
    out1_9 (F := Ideal) x0 x1 x2 x3 x4 x5 x6 x7 x8 (ix2 b o)
      = entry pi pj (fun f d => x0 (ix3 b f d)) (fun k => x1 (ix2 b k)) (fun k => x2 (ix2 b k)) (fun d => x5 (ix3 0 0 d))
          (fun k => x3 (ix2 k o)) (fun k => x4 (ix2 k o)) (x8 (ix2 0 o)) := by
  rw [out_at x0 x1 x2 x3 x4 x5 x6 x7 x8 hrep b o, funext fun p => scoreSum_eq x0 x5 x6 pi pj h1 h0 b p]
  rfl

variable (V : (c : Dev nD) → (b : Ref sig .tc) → Buf (Elt Ideal) ((c : Thread nD τ).loc b))

/-- The second region's result array, in the model's arithmetic. -/
def table (pi pj : Fin 325 → Fin 26) (E : FVec Ideal S1024x26x64 .f32) (E' : FVec Ideal S1024x1664 .f32)
    (H : FVec Ideal S1024x20800 .f32) (W : FVec Ideal S1664x256 .f32) (W' : FVec Ideal S20800x256 .f32)
    (wa : FVec Ideal S1x1x64 .f32) (bo : FVec Ideal S1x256 .f32) : FVec Ideal S1024x256 .f32 :=
  fun i => entry pi pj (fun f d => E (ix3 (i 0) f d)) (fun k => E' (ix2 (i 0) k)) (fun k => H (ix2 (i 0) k))
    (fun d => wa (ix3 0 0 d)) (fun k => W (ix2 k (i 1))) (fun k => W' (ix2 k (i 1))) (bo (ix2 0 (i 1)))

/-- The second region's block indices at every grid point: the point's rows for the row arrays, the whole array for the others. -/
theorem idx1 : ∀ t : Fin cfg1.N, win1_0.index t = ![t.val, 0, 0] ∧ win1_1.index t = ![t.val, 0] ∧ win1_2.index t = ![t.val, 0]
    ∧ win1_3.index t = ![0, 0] ∧ win1_4.index t = ![0, 0] ∧ win1_5.index t = ![0, 0, 0] ∧ win1_6.index t = ![0, 0, 0]
    ∧ win1_7.index t = ![0, 0] ∧ win1_8.index t = ![0, 0] ∧ win1_9.index t = ![t.val, 0] :=
  (by decide +kernel : ∀ t : Fin grid1.N, _)

/-- The second region's result array is the model's table of its input arrays. The selection table is the indicator of each pair
    and the spreading table the indicator of a lane's pair. -/
theorem third (c : Dev nD) (pi pj : Fin 325 → Fin 26)
    (h1 : ∀ p, V c main_cst (ix3 (pi p) (pj p) p) = (1 : EReal))
    (h0 : ∀ i j p, ¬ (i = pi p ∧ j = pj p) → V c main_cst (ix3 i j p) = (0 : EReal))
    (hrep : ∀ (q : Fin 25) (k : Fin 1600), V c main_v47 (ix2 q k) = if k.val / 64 = q.val then (1 : EReal) else 0) :
    (dat1 V c).arrAt 9 cfg1.N = table pi pj (V c main_v38) (V c main_v39) (V c main_v37) (V c main_v40) (V c main_v41)
      (V c main_v42) (V c main_v48) := by
  refine (dat1 V c).arrAt_eq_of_covers 9 _ (by decide +kernel) fun t _ y => ?_
  blk_simp
  rw [after1_9]
  idx_vars y
  have ht : t.val < 8 := t.isLt
  have e9 : ((View.whole main_v49).slice (win1_9.rect t)).emb (ix2 y0 y1) = ix2 (⟨t.val * 128 + y0.val, by omega⟩ : Fin 1024) y1 := by
    blk_point [idx1 t]
  have e0 : ∀ (f : Fin 26) (d : Fin 64), iblk1 V c 0 t (ix3 y0 f d)
      = V c main_v38 (ix3 (⟨t.val * 128 + y0.val, by omega⟩ : Fin 1024) f d) := fun f d => by blk_point [iblk1, idx1 t]
  have e1 : ∀ k : Fin 1664, iblk1 V c 1 t (ix2 y0 k)
      = V c main_v39 (ix2 (⟨t.val * 128 + y0.val, by omega⟩ : Fin 1024) k) := fun k => by blk_point [iblk1, idx1 t]
  have e2 : ∀ k : Fin 20800, iblk1 V c 2 t (ix2 y0 k)
      = V c main_v37 (ix2 (⟨t.val * 128 + y0.val, by omega⟩ : Fin 1024) k) := fun k => by blk_point [iblk1, idx1 t]
  have e3 : ∀ k : Fin 1664, iblk1 V c 3 t (ix2 k y1) = V c main_v40 (ix2 k y1) := fun k => by blk_point [iblk1, idx1 t]
  have e4 : ∀ k : Fin 20800, iblk1 V c 4 t (ix2 k y1) = V c main_v41 (ix2 k y1) := fun k => by blk_point [iblk1, idx1 t]
  have e5 : ∀ d : Fin 64, iblk1 V c 5 t (ix3 0 0 d) = V c main_v42 (ix3 0 0 d) := fun d => by blk_point [iblk1, idx1 t]
  have e6 : ∀ (i j : Fin 26) (p : Fin 325), iblk1 V c 6 t (ix3 i j p) = V c main_cst (ix3 i j p) := fun i j p => by
    blk_point [iblk1, idx1 t]
  have e7 : ∀ (q : Fin 25) (k : Fin 1600), iblk1 V c 7 t (ix2 q k) = V c main_v47 (ix2 q k) := fun q k => by
    blk_point [iblk1, idx1 t]
  have e8 : iblk1 V c 8 t (ix2 0 y1) = V c main_v48 (ix2 0 y1) := by blk_point [iblk1, idx1 t]
  rw [e9]
  refine (block_entry pi pj (iblk1 V c 0 t) (iblk1 V c 1 t) (iblk1 V c 2 t) (iblk1 V c 3 t) (iblk1 V c 4 t) (iblk1 V c 5 t)
    (iblk1 V c 6 t) (iblk1 V c 7 t) (iblk1 V c 8 t) (fun p => (e6 _ _ p).trans (h1 p))
    (fun i j p h => (e6 i j p).trans (h0 i j p h)) (fun q k => (e7 q k).trans (hrep q k)) y0 y1).trans ?_
  simp only [e0, e1, e2, e3, e4, e5, e8]
  rfl

end Cert.KernelIdeal.Rows

end
-- ==== Proof.KHost.lean ====
/- The host operations between the two regions, each line of them read as one function of the buffers it starts from. -/
module

public import proofs.«01_k».proof.Proof.Gen.KernelIdeal.Frame
public import Idealize.ShloMosaic.Lib.Pointwise
public import Idealize.ShloMosaic.Lib.Pipeline.ValueKit

@[expose] public section
set_option maxRecDepth 16384

noncomputable section

namespace Cert.KernelIdeal.HostFns

open Idealize.ShloMosaic Idealize.ShloMosaic.TcCoe Idealize.SL.Sem
open Cert.KernelIdeal Cert.KernelIdeal.Gen

/-- The features of each row named by a table of 325 field numbers. -/
def fieldsAt (x : Vec Ideal S1024x26 .i32) (t : Vec Ideal S325 .i32) : Vec Ideal S1024x325 .i32 :=
  id (Host.gather gather_S1024x26_S325x1_S1024x325_0_1_n_n_1_1_10241 x
    (broadcastInDim S325x1 ![0] bcast_S325_S325x1_0
      (select (constantI S325 1 0#1) (addi t (broadcastInDim S325 ![] bcast_S_S325 (constantI S_ 32 26#32))) t)))

/-- The mixed hash of two features, before it is reduced to a bucket: `x * a + y * b + c`. -/
def mixed (a b c : BitVec 32) (x y : Vec Ideal S1024x325 .i32) : Vec Ideal S1024x325 .i32 :=
  addi (addi (muli x (broadcastInDim S1024x325 ![] bcast_S_S1024x325 (constantI S_ 32 a)))
    (muli y (broadcastInDim S1024x325 ![] bcast_S_S1024x325 (constantI S_ 32 b))))
    (broadcastInDim S1024x325 ![] bcast_S_S1024x325 (constantI S_ 32 c))

/-- The divisor guarded against zero. -/
def divisor (n : Vec Ideal S_ .i32) : Vec Ideal S_ .i32 :=
  select (cmpi .eq n (constantI S_ 32 0#32)) (constantI S_ 32 1#32) n

/-- The unsigned remainder by the guarded divisor. -/
def remainder0 (x : Vec Ideal S1024x325 .i32) (n : Vec Ideal S_ .i32) : Vec Ideal S1024x325 .i32 :=
  Host.remui x (broadcastInDim S1024x325 ![] bcast_S_S1024x325 (divisor n))

/-- The remainder with the sign of the divisor, as the host computes it. -/
def remainder (x : Vec Ideal S1024x325 .i32) (n : Vec Ideal S_ .i32) : Vec Ideal S1024x325 .i32 :=
  select (andi (cmpi .ne (cmpi .ult (remainder0 x n) (broadcastInDim S1024x325 ![] bcast_S_S1024x325 (constantI S_ 32 0#32)))
      (broadcastInDim S1024x325 ![] bcast_S_S1024x325 (cmpi .ult (divisor n) (constantI S_ 32 0#32))))
      (cmpi .ne (remainder0 x n) (broadcastInDim S1024x325 ![] bcast_S_S1024x325 (constantI S_ 32 0#32))))
    (addi (remainder0 x n) (broadcastInDim S1024x325 ![] bcast_S_S1024x325 (divisor n))) (remainder0 x n)

/-- The row numbers of a lookup, negative ones counted from the end. -/
def rowIds (k : Vec Ideal S1024x325 .i32) : Vec Ideal S1024x325x1 .i32 :=
  broadcastInDim S1024x325x1 ![0, 1] bcast_S1024x325_S1024x325x1_0_1
    (select (cmpi .slt k (broadcastInDim S1024x325 ![] bcast_S_S1024x325 (constantI S_ 32 0#32)))
      (addi k (broadcastInDim S1024x325 ![] bcast_S_S1024x325 (constantI S_ 32 100000#32))) k)

/-- A lookup of rows of a table, rows out of range filled with a constant. -/
def rowsAt (T : Vec Ideal S100000x64 .f32) (k : Vec Ideal S1024x325 .i32) : Vec Ideal S1024x325x64 .f32 :=
  select (broadcastInDim S1024x325x64 ![0, 1] bcast_S1024x325_S1024x325x64_0_1
      (Host.reduce IntOp.andi (andi
          (cmpi .sge (rowIds k) (broadcastInDim S1024x325x1 ![] bcast_S_S1024x325x1 (constantI S_ 32 0#32)))
          (cmpi .sle (rowIds k) (broadcastInDim S1024x325x1 ![0, 1, 2] bcast_S1x1x1_S1024x325x1_0_1_2
            (broadcastInDim S1x1x1 ![2] bcast_S1_S1x1x1_2 (constantI S1 32 99999#32)))))
        (constantI S_ 1 1#1) reducesTo_S1024x325x1_S1024x325_d2 h_S_))
    (Host.gather gather_S100000x64_S1024x325x1_S1024x325x64_2_0_n_n_0_2_164 T (rowIds k))
    (broadcastInDim S1024x325x64 ![] bcast_S_S1024x325x64 (constant (F := Ideal) S_ .f32 0x7FC00000#32))

/-- The row numbers of the embedding lookup. -/
def embIds (x : Vec Ideal S1024x26 .i32) : Vec Ideal S1024x26x1 .i32 :=
  broadcastInDim S1024x26x1 ![0, 1] bcast_S1024x26_S1024x26x1_0_1
    (select (cmpi .slt x (broadcastInDim S1024x26 ![] bcast_S_S1024x26 (constantI S_ 32 0#32)))
      (addi x (broadcastInDim S1024x26 ![] bcast_S_S1024x26 (constantI S_ 32 100000#32))) x)

/-- The embedding lookup, rows out of range filled with a constant. -/
def embAt (T : Vec Ideal S100000x64 .f32) (x : Vec Ideal S1024x26 .i32) : Vec Ideal S1024x26x64 .f32 :=
  select (broadcastInDim S1024x26x64 ![0, 1] bcast_S1024x26_S1024x26x64_0_1
      (Host.reduce IntOp.andi (andi
          (cmpi .sge (embIds x) (broadcastInDim S1024x26x1 ![] bcast_S_S1024x26x1 (constantI S_ 32 0#32)))
          (cmpi .sle (embIds x) (broadcastInDim S1024x26x1 ![0, 1, 2] bcast_S1x1x1_S1024x26x1_0_1_2
            (broadcastInDim S1x1x1 ![2] bcast_S1_S1x1x1_2 (constantI S1 32 99999#32)))))
        (constantI S_ 1 1#1) reducesTo_S1024x26x1_S1024x26_d2 h_S_))
    (Host.gather gather_S100000x64_S1024x26x1_S1024x26x64_2_0_n_n_0_2_164 T (embIds x))
    (broadcastInDim S1024x26x64 ![] bcast_S_S1024x26x64 (constant (F := Ideal) S_ .f32 0x7FC00000#32))

variable (V : Valuation τ sig (Elt Ideal))

/-- The first remainder. -/
theorem call0 : StableHlo.after hostOps1_1 V (Proc.devRef .tc main_v23)
    = remainder (V (Proc.devRef .tc main_v22)) (V (Proc.devRef .tc main_c_8)) := by
  after_results_simp
  simp only [StableHlo.TRef.ofBuf_toBuf]
  simp only [StableHlo.TRef.toBuf, StableHlo.TRef.ofBuf, cast_eq]
  rfl

/-- The second remainder. -/
theorem call1 : StableHlo.after hostOps1_3 V (Proc.devRef .tc main_v32)
    = remainder (V (Proc.devRef .tc main_v31)) (V (Proc.devRef .tc main_c_12)) := by
  after_results_simp
  simp only [StableHlo.TRef.ofBuf_toBuf]
  simp only [StableHlo.TRef.toBuf, StableHlo.TRef.ofBuf, cast_eq]
  rfl

/-- The first lookup of product rows. -/
theorem call2 : StableHlo.after hostOps1_5 V (Proc.devRef .tc main_v34)
    = rowsAt (V (Proc.devRef .tc main_v3_0)) (V (Proc.devRef .tc main_v24)) := by
  after_results_simp
  simp only [StableHlo.TRef.ofBuf_toBuf]
  simp only [StableHlo.TRef.toBuf, StableHlo.TRef.ofBuf, cast_eq]
  rfl

/-- The second lookup of product rows. -/
theorem call3 : StableHlo.after hostOps1_6 V (Proc.devRef .tc main_v35)
    = rowsAt (V (Proc.devRef .tc main_v3_1)) (V (Proc.devRef .tc main_v33)) := by
  after_results_simp
  simp only [StableHlo.TRef.ofBuf_toBuf]
  simp only [StableHlo.TRef.toBuf, StableHlo.TRef.ofBuf, cast_eq]
  rfl

/-- The embedding lookup. -/
theorem call4 : StableHlo.after hostOps1_8 V (Proc.devRef .tc main_v38)
    = embAt (V (Proc.devRef .tc main_arg1)) (V (Proc.devRef .tc main_arg0)) := by
  after_results_simp
  simp only [StableHlo.TRef.ofBuf_toBuf]
  simp only [StableHlo.TRef.toBuf, StableHlo.TRef.ofBuf, cast_eq]
  rfl

end Cert.KernelIdeal.HostFns

end
-- ==== Proof.KBlocks.lean ====
/- The first region's two result arrays as one function of its input arrays: each block of 2000 codebook rows is
   multiplied by one half of the merge matrix, the second half's product has the merge bias added. -/
module

public import proofs.«01_k».proof.Proof.Gen.KernelIdeal.Frame
public import Idealize.ShloMosaic.Lib.Pipeline.ValueKit
public import Idealize.ShloMosaic.Lib.Pointwise

@[expose] public section
set_option maxRecDepth 16384

noncomputable section

namespace Cert.KernelIdeal.Blocks

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Codebook rows times a 64 by 64 matrix. -/
def rowsTimes (cb : FVec Ideal S100000x64 .f32) (w : FVec Ideal S64x64 .f32) : FVec Ideal S100000x64 .f32 :=
  fun i => ∑ k : Fin 64, cb (ix2 (i 0) k) * w (ix2 k (i 1))

/-- The same with a row added to every row. -/
def rowsTimesPlus (cb : FVec Ideal S100000x64 .f32) (w : FVec Ideal S64x64 .f32) (b : FVec Ideal S1x64 .f32) :
    FVec Ideal S100000x64 .f32 :=
  fun i => (∑ k : Fin 64, cb (ix2 (i 0) k) * w (ix2 k (i 1))) + b (ix2 0 (i 1))

/-- The first region's block indices at every grid point: the point's rows for the codebook and both results, the whole array
    for the weights and the bias. -/
theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The first result array: the codebook times the first half of the merge matrix. -/
theorem first (c : Dev nD) : (dat0 V c).arrAt 4 cfg0.N = rowsTimes (V c main_arg2) (V c main_v0) := by
  refine (dat0 V c).arrAt_eq_of_covers 4 _ (by decide +kernel) fun t _ y => ?_
  blk_simp
  rw [after0_4]; frame_out
  pointwise [k0_pay1, rowsTimes]
  blk_point [iblk0, idx0 t]

/-- The second result array: the codebook times the second half of the merge matrix, plus the bias. -/
theorem second (c : Dev nD) : (dat0 V c).arrAt 5 cfg0.N = rowsTimesPlus (V c main_arg2) (V c main_v1) (V c main_v2) := by
  refine (dat0 V c).arrAt_eq_of_covers 5 _ (by decide +kernel) fun t _ y => ?_
  blk_simp
  rw [after0_5]; frame_out
  pointwise [k0_pay2, rowsTimesPlus]
  blk_point [iblk0, idx0 t]

end Cert.KernelIdeal.Blocks

end
-- ==== Proof.KEntry.lean ====
/- What the second region's input arrays hold when it starts, as functions of the program's arguments. -/
module

public import proofs.«01_k».proof.Proof.KHost
public import proofs.«01_k».proof.Proof.KBlocks

@[expose] public section
set_option maxRecDepth 16384

noncomputable section

namespace Cert.KernelIdeal.HostFns

open Idealize.ShloMosaic Idealize.ShloMosaic.TcCoe Idealize.SL.Sem
open Cert.KernelIdeal Cert.KernelIdeal.Gen Cert.KernelIdeal.Blocks

/-- The table of first fields of the pairs. -/
def tabI : Vec Ideal S325 .i32 := fun i => lit0 (S325.rowMajor i)
/-- The table of second fields of the pairs. -/
def tabJ : Vec Ideal S325 .i32 := fun i => lit1 (S325.rowMajor i)
/-- The pair-selection table. -/
def tabSel : FVec Ideal S26x26x325 .f32 := fun i => FloatOps.ofBits .f32 (lit2 (S26x26x325.rowMajor i))
/-- The lane-spreading table: where the first two of three counters agree, the last two laid side by side. -/
def tabRep : FVec Ideal S25x1600 .f32 :=
  shapeCast S25x1600 (uitofp (F := Ideal) .f32 (cmpi .eq (iotaInDim S25x25x64 32 0) (iotaInDim S25x25x64 32 1)) : FVec Ideal S25x25x64 .f32)
    shapeCasts_S25x25x64_S25x1600

section Lines

variable (V : Valuation τ sig (Elt Ideal))

/-- The table of first fields. -/
theorem line0_c : StableHlo.after hostOps0 V (Proc.devRef .tc main_c) = tabI := by after_results_simp; rfl
/-- A mask that is one everywhere. -/
theorem line0_c_0 : StableHlo.after hostOps0 V (Proc.devRef .tc main_c_0) = constantI S325 1 0#1 := by after_results_simp
/-- The table of second fields. -/
theorem line0_c_1 : StableHlo.after hostOps0 V (Proc.devRef .tc main_c_1) = tabJ := by after_results_simp; rfl
/-- A mask that is one everywhere. -/
theorem line0_c_2 : StableHlo.after hostOps0 V (Proc.devRef .tc main_c_2) = constantI S325 1 0#1 := by after_results_simp
/-- The selection table. -/
theorem line0_cst : StableHlo.after hostOps0 V (Proc.devRef .tc main_cst) = tabSel := by after_results_simp; rfl
/-- The merge matrix's first 64 rows. -/
theorem line0_v0 : StableHlo.after hostOps0 V (Proc.devRef .tc main_v0)
    = extractStridedSlice S64x64 ![0, 0] (V (Proc.devRef .tc main_arg3)) slices_S128x64_S64x64_0_0 := by after_results_simp
/-- The merge matrix's last 64 rows. -/
theorem line0_v1 : StableHlo.after hostOps0 V (Proc.devRef .tc main_v1)
    = extractStridedSlice S64x64 ![64, 0] (V (Proc.devRef .tc main_arg3)) slices_S128x64_S64x64_64_0 := by after_results_simp
/-- The merge bias as a row. -/
theorem line0_v2 : StableHlo.after hostOps0 V (Proc.devRef .tc main_v2)
    = shapeCast S1x64 (V (Proc.devRef .tc main_arg4)) shapeCasts_S64_S1x64 := by after_results_simp; rfl

/-- Each pair's first feature. -/
theorem line1_v9 (h : V (Proc.devRef .tc main_c_0) = constantI S325 1 0#1) :
    StableHlo.after hostOps1 V (Proc.devRef .tc main_v9) = fieldsAt (V (Proc.devRef .tc main_arg0)) (V (Proc.devRef .tc main_c)) := by
  after_results_simp; rw [h]; rfl
/-- Each pair's second feature. -/
theorem line1_v15 (h : V (Proc.devRef .tc main_c_2) = constantI S325 1 0#1) :
    StableHlo.after hostOps1 V (Proc.devRef .tc main_v15) = fieldsAt (V (Proc.devRef .tc main_arg0)) (V (Proc.devRef .tc main_c_1)) := by
  after_results_simp; rw [h]; rfl
/-- The first hash, before its remainder. -/
theorem line1_v22 (h : V (Proc.devRef .tc main_c_0) = constantI S325 1 0#1) (h' : V (Proc.devRef .tc main_c_2) = constantI S325 1 0#1) :
    StableHlo.after hostOps1 V (Proc.devRef .tc main_v22)
      = mixed 2654435761#32 3266489917#32 374761393#32 (fieldsAt (V (Proc.devRef .tc main_arg0)) (V (Proc.devRef .tc main_c)))
          (fieldsAt (V (Proc.devRef .tc main_arg0)) (V (Proc.devRef .tc main_c_1))) := by
  after_results_simp; rw [h, h']; rfl
/-- The number of buckets. -/
theorem line1_c_8 : StableHlo.after hostOps1 V (Proc.devRef .tc main_c_8) = constantI S_ 32 100000#32 := by after_results_simp

/-- The first hash is the first remainder. -/
theorem line2_v24 : StableHlo.after hostOps1_2 V (Proc.devRef .tc main_v24) = V (Proc.devRef .tc main_v23) := by
  after_results_simp; rfl
/-- The second hash, before its remainder. -/
theorem line2_v31 : StableHlo.after hostOps1_2 V (Proc.devRef .tc main_v31)
    = mixed 2246822519#32 668265263#32 1103515245#32 (V (Proc.devRef .tc main_v9)) (V (Proc.devRef .tc main_v15)) := by
  after_results_simp; rfl
/-- The number of buckets. -/
theorem line2_c_12 : StableHlo.after hostOps1_2 V (Proc.devRef .tc main_c_12) = constantI S_ 32 100000#32 := by after_results_simp
/-- The second hash is the second remainder. -/
theorem line4_v33 : StableHlo.after hostOps1_4 V (Proc.devRef .tc main_v33) = V (Proc.devRef .tc main_v32) := by
  after_results_simp; rfl
/-- The two looked-up rows added, a row's pairs laid side by side. -/
theorem line7_v37 : StableHlo.after hostOps1_7 V (Proc.devRef .tc main_v37)
    = shapeCast S1024x20800 (addf (F := Ideal) (φ := .f32) (V (Proc.devRef .tc main_v34)) (V (Proc.devRef .tc main_v35)))
        shapeCasts_S1024x325x64_S1024x20800 := by
  after_results_simp; rfl
/-- The embeddings laid side by side. -/
theorem line9_v39 : StableHlo.after hostOps1_9 V (Proc.devRef .tc main_v39)
    = shapeCast S1024x1664 (V (Proc.devRef .tc main_v38)) shapeCasts_S1024x26x64_S1024x1664 := by
  after_results_simp; rfl
/-- The layer's matrix, embedding rows. -/
theorem line9_v40 : StableHlo.after hostOps1_9 V (Proc.devRef .tc main_v40)
    = extractStridedSlice S1664x256 ![0, 0] (V (Proc.devRef .tc main_arg6)) slices_S22464x256_S1664x256_0_0 := by
  after_results_simp
/-- The layer's matrix, pair rows. -/
theorem line9_v41 : StableHlo.after hostOps1_9 V (Proc.devRef .tc main_v41)
    = extractStridedSlice S20800x256 ![1664, 0] (V (Proc.devRef .tc main_arg6)) slices_S22464x256_S20800x256_1664_0 := by
  after_results_simp
/-- The attention weights as a block. -/
theorem line9_v42 : StableHlo.after hostOps1_9 V (Proc.devRef .tc main_v42)
    = shapeCast S1x1x64 (V (Proc.devRef .tc main_arg5)) shapeCasts_S64_S1x1x64 := by
  after_results_simp; rfl
/-- The spreading table. -/
theorem line9_v47 : StableHlo.after hostOps1_9 V (Proc.devRef .tc main_v47) = tabRep := by
  after_results_simp; rfl
/-- The layer's bias as a row. -/
theorem line9_v48 : StableHlo.after hostOps1_9 V (Proc.devRef .tc main_v48)
    = shapeCast S1x256 (V (Proc.devRef .tc main_arg7)) shapeCasts_S256_S1x256 := by
  after_results_simp; rfl

end Lines

section Entry

variable (m : (b : Loc nD τ sig) → Buf (Elt Ideal) b) (ρ : Dev nD → PrngReg) (c : Dev nD)

/-- An argument of the launch, as core `c` holds it. -/
abbrev arg (r : Ref sig .tc) : Buf (Elt Ideal) ((c : Thread nD τ).loc r) := m ((c : Thread nD τ).loc r)

/-- The first hash's buckets. -/
def code0 (x : Vec Ideal S1024x26 .i32) : Vec Ideal S1024x325 .i32 :=
  remainder (mixed 2654435761#32 3266489917#32 374761393#32 (fieldsAt x tabI) (fieldsAt x tabJ)) (constantI S_ 32 100000#32)
/-- The second hash's buckets. -/
def code1 (x : Vec Ideal S1024x26 .i32) : Vec Ideal S1024x325 .i32 :=
  remainder (mixed 2246822519#32 668265263#32 1103515245#32 (fieldsAt x tabI) (fieldsAt x tabJ)) (constantI S_ 32 100000#32)
/-- The codebook times the first half of the merge matrix. -/
def prod0 (cb : Vec Ideal S100000x64 .f32) (w : Vec Ideal S128x64 .f32) : Vec Ideal S100000x64 .f32 :=
  rowsTimes cb (extractStridedSlice S64x64 ![0, 0] w slices_S128x64_S64x64_0_0)
/-- The codebook times the second half of the merge matrix, plus the bias. -/
def prod1 (cb : Vec Ideal S100000x64 .f32) (w : Vec Ideal S128x64 .f32) (b : Vec Ideal S64 .f32) : Vec Ideal S100000x64 .f32 :=
  rowsTimesPlus cb (extractStridedSlice S64x64 ![64, 0] w slices_S128x64_S64x64_64_0) (shapeCast S1x64 b shapeCasts_S64_S1x64)

/-- The first region leaves the first product. -/
theorem at2_v3_0 : W2 m ρ c (Proc.devRef .tc main_v3_0) = prod0 (arg m c main_arg2) (arg m c main_arg3) := by
  refine (W2_arr m ρ c 4).trans ((first (V1 m ρ) c).trans ?_)
  exact congrArg₂ rowsTimes (W1_args m ρ c main_arg2 (by decide)) ((line0_v0 _).trans rfl)

/-- The first region leaves the second product. -/
theorem at2_v3_1 : W2 m ρ c (Proc.devRef .tc main_v3_1) = prod1 (arg m c main_arg2) (arg m c main_arg3) (arg m c main_arg4) := by
  refine (W2_arr m ρ c 5).trans ((second (V1 m ρ) c).trans ?_)
  have e1 : V1 m ρ c main_v1 = extractStridedSlice S64x64 ![64, 0] (arg m c main_arg3) slices_S128x64_S64x64_64_0 := (line0_v1 _).trans rfl
  have e2 : V1 m ρ c main_v2 = shapeCast S1x64 (arg m c main_arg4) shapeCasts_S64_S1x64 := (line0_v2 _).trans rfl
  have e3 : V1 m ρ c main_arg2 = (arg m c main_arg2) := W1_args m ρ c main_arg2 (by decide)
  rw [e1, e2, e3]
  rfl

/-- A table, after the first region. -/
theorem at2_c : W2 m ρ c (Proc.devRef .tc main_c) = tabI := (W2_of m ρ c main_c (by decide +kernel)).trans (line0_c _)

/-- A table, after the first region. -/
theorem at2_c_0 : W2 m ρ c (Proc.devRef .tc main_c_0) = constantI S325 1 0#1 := (W2_of m ρ c main_c_0 (by decide +kernel)).trans (line0_c_0 _)

/-- A table, after the first region. -/
theorem at2_c_1 : W2 m ρ c (Proc.devRef .tc main_c_1) = tabJ := (W2_of m ρ c main_c_1 (by decide +kernel)).trans (line0_c_1 _)

/-- A table, after the first region. -/
theorem at2_c_2 : W2 m ρ c (Proc.devRef .tc main_c_2) = constantI S325 1 0#1 := (W2_of m ρ c main_c_2 (by decide +kernel)).trans (line0_c_2 _)

/-- A table, after the first region. -/
theorem at2_cst : W2 m ρ c (Proc.devRef .tc main_cst) = tabSel := (W2_of m ρ c main_cst (by decide +kernel)).trans (line0_cst _)

/-- Each pair's first feature. -/
theorem at3_v9 : W3 m ρ c (Proc.devRef .tc main_v9) = fieldsAt (arg m c main_arg0) tabI := by
  refine (line1_v9 (W2 m ρ c) (at2_c_0 m ρ c)).trans ?_
  rw [at2_c, W2_args m ρ c main_arg0 (by decide)]

/-- Each pair's second feature. -/
theorem at3_v15 : W3 m ρ c (Proc.devRef .tc main_v15) = fieldsAt (arg m c main_arg0) tabJ := by
  refine (line1_v15 (W2 m ρ c) (at2_c_2 m ρ c)).trans ?_
  rw [at2_c_1, W2_args m ρ c main_arg0 (by decide)]

/-- The first hash. -/
theorem at3_v22 : W3 m ρ c (Proc.devRef .tc main_v22) = mixed 2654435761#32 3266489917#32 374761393#32 (fieldsAt (arg m c main_arg0) tabI) (fieldsAt (arg m c main_arg0) tabJ) := by
  refine (line1_v22 (W2 m ρ c) (at2_c_0 m ρ c) (at2_c_2 m ρ c)).trans ?_
  rw [at2_c, at2_c_1, W2_args m ρ c main_arg0 (by decide)]

/-- The first buckets. -/
theorem at5_v24 : W5 m ρ c (Proc.devRef .tc main_v24) = code0 (arg m c main_arg0) := by
  refine (line2_v24 (W4 m ρ c)).trans ((call0 (W3 m ρ c)).trans ?_)
  rw [at3_v22]
  exact congrArg (remainder _) (line1_c_8 (W2 m ρ c))

/-- The second hash. -/
theorem at5_v31 : W5 m ρ c (Proc.devRef .tc main_v31) = mixed 2246822519#32 668265263#32 1103515245#32 (fieldsAt (arg m c main_arg0) tabI) (fieldsAt (arg m c main_arg0) tabJ) := by
  refine (line2_v31 (W4 m ρ c)).trans ?_
  rw [W4_of m ρ c main_v9 (by decide), W4_of m ρ c main_v15 (by decide), at3_v9, at3_v15]

/-- The second buckets. -/
theorem at7_v33 : W7 m ρ c (Proc.devRef .tc main_v33) = code1 (arg m c main_arg0) := by
  refine (line4_v33 (W6 m ρ c)).trans ((call1 (W5 m ρ c)).trans ?_)
  rw [at5_v31]
  exact congrArg (remainder _) (line2_c_12 (W4 m ρ c))

/-- The first looked-up rows. -/
theorem at8_v34 : W8 m ρ c (Proc.devRef .tc main_v34) = rowsAt (prod0 (arg m c main_arg2) (arg m c main_arg3)) (code0 (arg m c main_arg0)) := by
  refine (call2 (W7 m ρ c)).trans ?_
  rw [((((W7_of m ρ c main_v3_0 (by decide)).trans (W6_of m ρ c main_v3_0 (by decide))).trans (W5_of m ρ c main_v3_0 (by decide))).trans (W4_of m ρ c main_v3_0 (by decide))).trans (W3_of m ρ c main_v3_0 (by decide)), at2_v3_0, (W7_of m ρ c main_v24 (by decide)).trans (W6_of m ρ c main_v24 (by decide)), at5_v24]

/-- The second looked-up rows. -/
theorem at9_v35 : W9 m ρ c (Proc.devRef .tc main_v35) = rowsAt (prod1 (arg m c main_arg2) (arg m c main_arg3) (arg m c main_arg4)) (code1 (arg m c main_arg0)) := by
  refine (call3 (W8 m ρ c)).trans ?_
  rw [(((((W8_of m ρ c main_v3_1 (by decide)).trans (W7_of m ρ c main_v3_1 (by decide))).trans (W6_of m ρ c main_v3_1 (by decide))).trans (W5_of m ρ c main_v3_1 (by decide))).trans (W4_of m ρ c main_v3_1 (by decide))).trans (W3_of m ρ c main_v3_1 (by decide)), at2_v3_1, W8_of m ρ c main_v33 (by decide), at7_v33]

/-- The features entering the second region. -/
theorem at12_v37 : W12 m ρ c (Proc.devRef .tc main_v37) = shapeCast S1024x20800 (addf (F := Ideal) (φ := .f32) (rowsAt (prod0 (arg m c main_arg2) (arg m c main_arg3)) (code0 (arg m c main_arg0))) (rowsAt (prod1 (arg m c main_arg2) (arg m c main_arg3) (arg m c main_arg4)) (code1 (arg m c main_arg0)))) shapeCasts_S1024x325x64_S1024x20800 := by
  refine ((W12_of m ρ c main_v37 (by decide)).trans (W11_of m ρ c main_v37 (by decide))).trans ((line7_v37 (W9 m ρ c)).trans ?_)
  rw [W9_of m ρ c main_v34 (by decide), at8_v34, at9_v35]

/-- The embeddings. -/
theorem at11_v38 : W11 m ρ c (Proc.devRef .tc main_v38) = embAt (arg m c main_arg1) (arg m c main_arg0) := by
  refine (call4 (W10 m ρ c)).trans ?_
  rw [W10_args m ρ c main_arg1 (by decide), W10_args m ρ c main_arg0 (by decide)]

/-- The embeddings entering the second region. -/
theorem at12_v38 : W12 m ρ c (Proc.devRef .tc main_v38) = embAt (arg m c main_arg1) (arg m c main_arg0) := (W12_of m ρ c main_v38 (by decide)).trans (at11_v38 m ρ c)

/-- The embeddings side by side. -/
theorem at12_v39 : W12 m ρ c (Proc.devRef .tc main_v39) = shapeCast S1024x1664 (embAt (arg m c main_arg1) (arg m c main_arg0)) shapeCasts_S1024x26x64_S1024x1664 := by
  refine (line9_v39 (W11 m ρ c)).trans ?_
  rw [at11_v38]

/-- A part of the weights entering the second region. -/
theorem at12_v40 : W12 m ρ c (Proc.devRef .tc main_v40) = extractStridedSlice S1664x256 ![0, 0] (arg m c main_arg6) slices_S22464x256_S1664x256_0_0 := by
  refine (line9_v40 (W11 m ρ c)).trans ?_
  rw [W11_args m ρ c main_arg6 (by decide)]

/-- A part of the weights entering the second region. -/
theorem at12_v41 : W12 m ρ c (Proc.devRef .tc main_v41) = extractStridedSlice S20800x256 ![1664, 0] (arg m c main_arg6) slices_S22464x256_S20800x256_1664_0 := by
  refine (line9_v41 (W11 m ρ c)).trans ?_
  rw [W11_args m ρ c main_arg6 (by decide)]

/-- A part of the weights entering the second region. -/
theorem at12_v42 : W12 m ρ c (Proc.devRef .tc main_v42) = shapeCast S1x1x64 (arg m c main_arg5) shapeCasts_S64_S1x1x64 := by
  refine (line9_v42 (W11 m ρ c)).trans ?_
  rw [W11_args m ρ c main_arg5 (by decide)]

/-- A part of the weights entering the second region. -/
theorem at12_v48 : W12 m ρ c (Proc.devRef .tc main_v48) = shapeCast S1x256 (arg m c main_arg7) shapeCasts_S256_S1x256 := by
  refine (line9_v48 (W11 m ρ c)).trans ?_
  rw [W11_args m ρ c main_arg7 (by decide)]

/-- A table entering the second region. -/
theorem at12_cst : W12 m ρ c (Proc.devRef .tc main_cst) = tabSel := ((((((((((W12_of m ρ c main_cst (by decide)).trans (W11_of m ρ c main_cst (by decide))).trans (W10_of m ρ c main_cst (by decide))).trans (W9_of m ρ c main_cst (by decide))).trans (W8_of m ρ c main_cst (by decide))).trans (W7_of m ρ c main_cst (by decide))).trans (W6_of m ρ c main_cst (by decide))).trans (W5_of m ρ c main_cst (by decide))).trans (W4_of m ρ c main_cst (by decide))).trans (W3_of m ρ c main_cst (by decide))).trans (at2_cst m ρ c)

/-- A table entering the second region. -/
theorem at12_v47 : W12 m ρ c (Proc.devRef .tc main_v47) = tabRep := line9_v47 (W11 m ρ c)

end Entry

end Cert.KernelIdeal.HostFns

end
-- ==== Proof.Pairs.lean ====
/- The pairs of fields in closed form.  Pair number `p` of the 325 pairs `i < j` of 26 fields, counted row by row, is
   `p = i * (51 - i) / 2 + (j - i - 1)`: the printed selection table is this formula's indicator. -/
module

public import Idealize.ShloMosaic.Lib.Pointwise

@[expose] public section

namespace Cert.Pairs

/-- Whether pair number `p` is the pair of the fields `i` and `j`, by the closed formula. -/
def hit (i j p : ℕ) : Bool := Nat.blt i j && Nat.beq (p + i + 1) (i * (51 - i) / 2 + j)

/-- The bits of `1.0` where pair number `p` is the pair `(i, j)`, of `0.0` elsewhere. -/
def selBits (i j p : ℕ) : BitVec 32 := bif hit i j p then 0x3F800000#32 else 0x00000000#32

end Cert.Pairs
-- ==== Proof.Fields.lean ====
/- The printed tables of the fields of each pair, read at a pair number. -/
module

public import proofs.«01_k».proof.Proof.KEntry
public import proofs.«01_k».proof.Proof.Pairs
public import proofs.«01_k».proof.Proof.Gen.ReferenceIdeal.Run

@[expose] public section
set_option maxRecDepth 16384

noncomputable section

namespace Cert.Tables

open Idealize.ShloMosaic Idealize.ShloMosaic.TcCoe Idealize.SL.Sem
open Cert.KernelIdeal Cert.KernelIdeal.HostFns

/-- The first-field table holds field numbers. -/
theorem first_lt : ∀ p : Fin 325, (lit0 p).toNat < 26 := by decide +kernel
/-- The second-field table holds field numbers. -/
theorem second_lt : ∀ p : Fin 325, (lit1 p).toNat < 26 := by decide +kernel

/-- The first field of each pair. -/
def pi (p : Fin 325) : Fin 26 := ⟨(lit0 p).toNat, first_lt p⟩
/-- The second field of each pair. -/
def pj (p : Fin 325) : Fin 26 := ⟨(lit1 p).toNat, second_lt p⟩

/-- The two programs print one table of first fields. -/
theorem same0 : ∀ p : Fin 325, Cert.ReferenceIdeal.lit0 p = lit0 p := by decide +kernel
/-- The two programs print one table of second fields. -/
theorem same1 : ∀ p : Fin 325, Cert.ReferenceIdeal.lit1 p = lit1 p := by decide +kernel

/-- The closed formula holds of each pair number and its fields. -/
theorem hit_pair : ∀ p : Fin 325, Cert.Pairs.hit (lit0 p).toNat (lit1 p).toNat p.val = true := by decide +kernel

/-- A pair number in closed form. -/
def num (i j : Fin 26) : Nat := i.val * (51 - i.val) / 2 + j.val - i.val - 1

/-- The tables hold, at the pair number of two fields in order, those two fields. -/
theorem at_num : ∀ i j : Fin 26, i.val < j.val →
    ∃ h : num i j < 325, (lit0 ⟨num i j, h⟩).toNat = i.val ∧ (lit1 ⟨num i j, h⟩).toNat = j.val := by decide +kernel

/-- The closed formula holds only of the pair's own fields. -/
theorem hit_only (i j : Fin 26) (p : Fin 325) (h : Cert.Pairs.hit i.val j.val p.val = true) : i = pi p ∧ j = pj p := by
  unfold Cert.Pairs.hit at h
  rw [Bool.and_eq_true] at h
  obtain ⟨h1, h2⟩ := h
  have h1' : i.val < j.val := Nat.blt_eq ▸ h1
  have h2' : p.val + i.val + 1 = i.val * (51 - i.val) / 2 + j.val := Nat.eq_of_beq_eq_true h2
  obtain ⟨hn, e0, e1⟩ := at_num i j h1'
  have hp : (⟨num i j, hn⟩ : Fin 325) = p := Fin.ext (by show num i j = p.val; unfold num; omega)
  rw [hp] at e0 e1
  exact ⟨Fin.ext e0.symm, Fin.ext e1.symm⟩

end Cert.Tables

end
-- ==== Proof.SelA.lean ====
/- The printed pair-selection table against the closed formula, checked entry by entry by evaluation: fields 0 to 6. -/
module

public import proofs.«01_k».proof.KernelIdeal
public import proofs.«01_k».proof.Proof.Pairs

@[expose] public section
set_option maxRecDepth 16384

namespace Cert.Tables

/-- The entries of first field 0 and second fields 0 to 12. -/
theorem sel0_0 : ∀ j : Fin 13, ∀ p : Fin 325, Cert.KernelIdeal.lit2t ((0 * 26 + (0 + j.val)) * 325 + p.val)
    = Cert.Pairs.selBits 0 (0 + j.val) p.val := by decide +kernel

/-- The entries of first field 0 and second fields 13 to 25. -/
theorem sel0_13 : ∀ j : Fin 13, ∀ p : Fin 325, Cert.KernelIdeal.lit2t ((0 * 26 + (13 + j.val)) * 325 + p.val)
    = Cert.Pairs.selBits 0 (13 + j.val) p.val := by decide +kernel

/-- The entries of first field 1 and second fields 0 to 12. -/
theorem sel1_0 : ∀ j : Fin 13, ∀ p : Fin 325, Cert.KernelIdeal.lit2t ((1 * 26 + (0 + j.val)) * 325 + p.val)
    = Cert.Pairs.selBits 1 (0 + j.val) p.val := by decide +kernel

/-- The entries of first field 1 and second fields 13 to 25. -/
theorem sel1_13 : ∀ j : Fin 13, ∀ p : Fin 325, Cert.KernelIdeal.lit2t ((1 * 26 + (13 + j.val)) * 325 + p.val)
    = Cert.Pairs.selBits 1 (13 + j.val) p.val := by decide +kernel

/-- The entries of first field 2 and second fields 0 to 12. -/
theorem sel2_0 : ∀ j : Fin 13, ∀ p : Fin 325, Cert.KernelIdeal.lit2t ((2 * 26 + (0 + j.val)) * 325 + p.val)
    = Cert.Pairs.selBits 2 (0 + j.val) p.val := by decide +kernel

/-- The entries of first field 2 and second fields 13 to 25. -/
theorem sel2_13 : ∀ j : Fin 13, ∀ p : Fin 325, Cert.KernelIdeal.lit2t ((2 * 26 + (13 + j.val)) * 325 + p.val)
    = Cert.Pairs.selBits 2 (13 + j.val) p.val := by decide +kernel

/-- The entries of first field 3 and second fields 0 to 12. -/
theorem sel3_0 : ∀ j : Fin 13, ∀ p : Fin 325, Cert.KernelIdeal.lit2t ((3 * 26 + (0 + j.val)) * 325 + p.val)
    = Cert.Pairs.selBits 3 (0 + j.val) p.val := by decide +kernel

/-- The entries of first field 3 and second fields 13 to 25. -/
theorem sel3_13 : ∀ j : Fin 13, ∀ p : Fin 325, Cert.KernelIdeal.lit2t ((3 * 26 + (13 + j.val)) * 325 + p.val)
    = Cert.Pairs.selBits 3 (13 + j.val) p.val := by decide +kernel

/-- The entries of first field 4 and second fields 0 to 12. -/
theorem sel4_0 : ∀ j : Fin 13, ∀ p : Fin 325, Cert.KernelIdeal.lit2t ((4 * 26 + (0 + j.val)) * 325 + p.val)
    = Cert.Pairs.selBits 4 (0 + j.val) p.val := by decide +kernel

/-- The entries of first field 4 and second fields 13 to 25. -/
theorem sel4_13 : ∀ j : Fin 13, ∀ p : Fin 325, Cert.KernelIdeal.lit2t ((4 * 26 + (13 + j.val)) * 325 + p.val)
    = Cert.Pairs.selBits 4 (13 + j.val) p.val := by decide +kernel

/-- The entries of first field 5 and second fields 0 to 12. -/
theorem sel5_0 : ∀ j : Fin 13, ∀ p : Fin 325, Cert.KernelIdeal.lit2t ((5 * 26 + (0 + j.val)) * 325 + p.val)
    = Cert.Pairs.selBits 5 (0 + j.val) p.val := by decide +kernel

/-- The entries of first field 5 and second fields 13 to 25. -/
theorem sel5_13 : ∀ j : Fin 13, ∀ p : Fin 325, Cert.KernelIdeal.lit2t ((5 * 26 + (13 + j.val)) * 325 + p.val)
    = Cert.Pairs.selBits 5 (13 + j.val) p.val := by decide +kernel

/-- The entries of first field 6 and second fields 0 to 12. -/
theorem sel6_0 : ∀ j : Fin 13, ∀ p : Fin 325, Cert.KernelIdeal.lit2t ((6 * 26 + (0 + j.val)) * 325 + p.val)
    = Cert.Pairs.selBits 6 (0 + j.val) p.val := by decide +kernel

/-- The entries of first field 6 and second fields 13 to 25. -/
theorem sel6_13 : ∀ j : Fin 13, ∀ p : Fin 325, Cert.KernelIdeal.lit2t ((6 * 26 + (13 + j.val)) * 325 + p.val)
    = Cert.Pairs.selBits 6 (13 + j.val) p.val := by decide +kernel

end Cert.Tables
-- ==== Proof.SelB.lean ====
/- The printed pair-selection table against the closed formula, checked entry by entry by evaluation: fields 7 to 13. -/
module

public import proofs.«01_k».proof.KernelIdeal
public import proofs.«01_k».proof.Proof.Pairs

@[expose] public section
set_option maxRecDepth 16384

namespace Cert.Tables

/-- The entries of first field 7 and second fields 0 to 12. -/
theorem sel7_0 : ∀ j : Fin 13, ∀ p : Fin 325, Cert.KernelIdeal.lit2t ((7 * 26 + (0 + j.val)) * 325 + p.val)
    = Cert.Pairs.selBits 7 (0 + j.val) p.val := by decide +kernel

/-- The entries of first field 7 and second fields 13 to 25. -/
theorem sel7_13 : ∀ j : Fin 13, ∀ p : Fin 325, Cert.KernelIdeal.lit2t ((7 * 26 + (13 + j.val)) * 325 + p.val)
    = Cert.Pairs.selBits 7 (13 + j.val) p.val := by decide +kernel

/-- The entries of first field 8 and second fields 0 to 12. -/
theorem sel8_0 : ∀ j : Fin 13, ∀ p : Fin 325, Cert.KernelIdeal.lit2t ((8 * 26 + (0 + j.val)) * 325 + p.val)
    = Cert.Pairs.selBits 8 (0 + j.val) p.val := by decide +kernel

/-- The entries of first field 8 and second fields 13 to 25. -/
theorem sel8_13 : ∀ j : Fin 13, ∀ p : Fin 325, Cert.KernelIdeal.lit2t ((8 * 26 + (13 + j.val)) * 325 + p.val)
    = Cert.Pairs.selBits 8 (13 + j.val) p.val := by decide +kernel

/-- The entries of first field 9 and second fields 0 to 12. -/
theorem sel9_0 : ∀ j : Fin 13, ∀ p : Fin 325, Cert.KernelIdeal.lit2t ((9 * 26 + (0 + j.val)) * 325 + p.val)
    = Cert.Pairs.selBits 9 (0 + j.val) p.val := by decide +kernel

/-- The entries of first field 9 and second fields 13 to 25. -/
theorem sel9_13 : ∀ j : Fin 13, ∀ p : Fin 325, Cert.KernelIdeal.lit2t ((9 * 26 + (13 + j.val)) * 325 + p.val)
    = Cert.Pairs.selBits 9 (13 + j.val) p.val := by decide +kernel

/-- The entries of first field 10 and second fields 0 to 12. -/
theorem sel10_0 : ∀ j : Fin 13, ∀ p : Fin 325, Cert.KernelIdeal.lit2t ((10 * 26 + (0 + j.val)) * 325 + p.val)
    = Cert.Pairs.selBits 10 (0 + j.val) p.val := by decide +kernel

/-- The entries of first field 10 and second fields 13 to 25. -/
theorem sel10_13 : ∀ j : Fin 13, ∀ p : Fin 325, Cert.KernelIdeal.lit2t ((10 * 26 + (13 + j.val)) * 325 + p.val)
    = Cert.Pairs.selBits 10 (13 + j.val) p.val := by decide +kernel

/-- The entries of first field 11 and second fields 0 to 12. -/
theorem sel11_0 : ∀ j : Fin 13, ∀ p : Fin 325, Cert.KernelIdeal.lit2t ((11 * 26 + (0 + j.val)) * 325 + p.val)
    = Cert.Pairs.selBits 11 (0 + j.val) p.val := by decide +kernel

/-- The entries of first field 11 and second fields 13 to 25. -/
theorem sel11_13 : ∀ j : Fin 13, ∀ p : Fin 325, Cert.KernelIdeal.lit2t ((11 * 26 + (13 + j.val)) * 325 + p.val)
    = Cert.Pairs.selBits 11 (13 + j.val) p.val := by decide +kernel

/-- The entries of first field 12 and second fields 0 to 12. -/
theorem sel12_0 : ∀ j : Fin 13, ∀ p : Fin 325, Cert.KernelIdeal.lit2t ((12 * 26 + (0 + j.val)) * 325 + p.val)
    = Cert.Pairs.selBits 12 (0 + j.val) p.val := by decide +kernel

/-- The entries of first field 12 and second fields 13 to 25. -/
theorem sel12_13 : ∀ j : Fin 13, ∀ p : Fin 325, Cert.KernelIdeal.lit2t ((12 * 26 + (13 + j.val)) * 325 + p.val)
    = Cert.Pairs.selBits 12 (13 + j.val) p.val := by decide +kernel

/-- The entries of first field 13 and second fields 0 to 12. -/
theorem sel13_0 : ∀ j : Fin 13, ∀ p : Fin 325, Cert.KernelIdeal.lit2t ((13 * 26 + (0 + j.val)) * 325 + p.val)
    = Cert.Pairs.selBits 13 (0 + j.val) p.val := by decide +kernel

/-- The entries of first field 13 and second fields 13 to 25. -/
theorem sel13_13 : ∀ j : Fin 13, ∀ p : Fin 325, Cert.KernelIdeal.lit2t ((13 * 26 + (13 + j.val)) * 325 + p.val)
    = Cert.Pairs.selBits 13 (13 + j.val) p.val := by decide +kernel

end Cert.Tables
-- ==== Proof.SelC.lean ====
/- The printed pair-selection table against the closed formula, checked entry by entry by evaluation: fields 14 to 19. -/
module

public import proofs.«01_k».proof.KernelIdeal
public import proofs.«01_k».proof.Proof.Pairs

@[expose] public section
set_option maxRecDepth 16384

namespace Cert.Tables

/-- The entries of first field 14 and second fields 0 to 12. -/
theorem sel14_0 : ∀ j : Fin 13, ∀ p : Fin 325, Cert.KernelIdeal.lit2t ((14 * 26 + (0 + j.val)) * 325 + p.val)
    = Cert.Pairs.selBits 14 (0 + j.val) p.val := by decide +kernel

/-- The entries of first field 14 and second fields 13 to 25. -/
theorem sel14_13 : ∀ j : Fin 13, ∀ p : Fin 325, Cert.KernelIdeal.lit2t ((14 * 26 + (13 + j.val)) * 325 + p.val)
    = Cert.Pairs.selBits 14 (13 + j.val) p.val := by decide +kernel

/-- The entries of first field 15 and second fields 0 to 12. -/
theorem sel15_0 : ∀ j : Fin 13, ∀ p : Fin 325, Cert.KernelIdeal.lit2t ((15 * 26 + (0 + j.val)) * 325 + p.val)
    = Cert.Pairs.selBits 15 (0 + j.val) p.val := by decide +kernel

/-- The entries of first field 15 and second fields 13 to 25. -/
theorem sel15_13 : ∀ j : Fin 13, ∀ p : Fin 325, Cert.KernelIdeal.lit2t ((15 * 26 + (13 + j.val)) * 325 + p.val)
    = Cert.Pairs.selBits 15 (13 + j.val) p.val := by decide +kernel

/-- The entries of first field 16 and second fields 0 to 12. -/
theorem sel16_0 : ∀ j : Fin 13, ∀ p : Fin 325, Cert.KernelIdeal.lit2t ((16 * 26 + (0 + j.val)) * 325 + p.val)
    = Cert.Pairs.selBits 16 (0 + j.val) p.val := by decide +kernel

/-- The entries of first field 16 and second fields 13 to 25. -/
theorem sel16_13 : ∀ j : Fin 13, ∀ p : Fin 325, Cert.KernelIdeal.lit2t ((16 * 26 + (13 + j.val)) * 325 + p.val)
    = Cert.Pairs.selBits 16 (13 + j.val) p.val := by decide +kernel

/-- The entries of first field 17 and second fields 0 to 12. -/
theorem sel17_0 : ∀ j : Fin 13, ∀ p : Fin 325, Cert.KernelIdeal.lit2t ((17 * 26 + (0 + j.val)) * 325 + p.val)
    = Cert.Pairs.selBits 17 (0 + j.val) p.val := by decide +kernel

/-- The entries of first field 17 and second fields 13 to 25. -/
theorem sel17_13 : ∀ j : Fin 13, ∀ p : Fin 325, Cert.KernelIdeal.lit2t ((17 * 26 + (13 + j.val)) * 325 + p.val)
    = Cert.Pairs.selBits 17 (13 + j.val) p.val := by decide +kernel

/-- The entries of first field 18 and second fields 0 to 12. -/
theorem sel18_0 : ∀ j : Fin 13, ∀ p : Fin 325, Cert.KernelIdeal.lit2t ((18 * 26 + (0 + j.val)) * 325 + p.val)
    = Cert.Pairs.selBits 18 (0 + j.val) p.val := by decide +kernel

/-- The entries of first field 18 and second fields 13 to 25. -/
theorem sel18_13 : ∀ j : Fin 13, ∀ p : Fin 325, Cert.KernelIdeal.lit2t ((18 * 26 + (13 + j.val)) * 325 + p.val)
    = Cert.Pairs.selBits 18 (13 + j.val) p.val := by decide +kernel

/-- The entries of first field 19 and second fields 0 to 12. -/
theorem sel19_0 : ∀ j : Fin 13, ∀ p : Fin 325, Cert.KernelIdeal.lit2t ((19 * 26 + (0 + j.val)) * 325 + p.val)
    = Cert.Pairs.selBits 19 (0 + j.val) p.val := by decide +kernel

/-- The entries of first field 19 and second fields 13 to 25. -/
theorem sel19_13 : ∀ j : Fin 13, ∀ p : Fin 325, Cert.KernelIdeal.lit2t ((19 * 26 + (13 + j.val)) * 325 + p.val)
    = Cert.Pairs.selBits 19 (13 + j.val) p.val := by decide +kernel

end Cert.Tables
-- ==== Proof.SelD.lean ====
/- The printed pair-selection table against the closed formula, checked entry by entry by evaluation: fields 20 to 25. -/
module

public import proofs.«01_k».proof.KernelIdeal
public import proofs.«01_k».proof.Proof.Pairs

@[expose] public section
set_option maxRecDepth 16384

namespace Cert.Tables

/-- The entries of first field 20 and second fields 0 to 12. -/
theorem sel20_0 : ∀ j : Fin 13, ∀ p : Fin 325, Cert.KernelIdeal.lit2t ((20 * 26 + (0 + j.val)) * 325 + p.val)
    = Cert.Pairs.selBits 20 (0 + j.val) p.val := by decide +kernel

/-- The entries of first field 20 and second fields 13 to 25. -/
theorem sel20_13 : ∀ j : Fin 13, ∀ p : Fin 325, Cert.KernelIdeal.lit2t ((20 * 26 + (13 + j.val)) * 325 + p.val)
    = Cert.Pairs.selBits 20 (13 + j.val) p.val := by decide +kernel

/-- The entries of first field 21 and second fields 0 to 12. -/
theorem sel21_0 : ∀ j : Fin 13, ∀ p : Fin 325, Cert.KernelIdeal.lit2t ((21 * 26 + (0 + j.val)) * 325 + p.val)
    = Cert.Pairs.selBits 21 (0 + j.val) p.val := by decide +kernel

/-- The entries of first field 21 and second fields 13 to 25. -/
theorem sel21_13 : ∀ j : Fin 13, ∀ p : Fin 325, Cert.KernelIdeal.lit2t ((21 * 26 + (13 + j.val)) * 325 + p.val)
    = Cert.Pairs.selBits 21 (13 + j.val) p.val := by decide +kernel

/-- The entries of first field 22 and second fields 0 to 12. -/
theorem sel22_0 : ∀ j : Fin 13, ∀ p : Fin 325, Cert.KernelIdeal.lit2t ((22 * 26 + (0 + j.val)) * 325 + p.val)
    = Cert.Pairs.selBits 22 (0 + j.val) p.val := by decide +kernel

/-- The entries of first field 22 and second fields 13 to 25. -/
theorem sel22_13 : ∀ j : Fin 13, ∀ p : Fin 325, Cert.KernelIdeal.lit2t ((22 * 26 + (13 + j.val)) * 325 + p.val)
    = Cert.Pairs.selBits 22 (13 + j.val) p.val := by decide +kernel

/-- The entries of first field 23 and second fields 0 to 12. -/
theorem sel23_0 : ∀ j : Fin 13, ∀ p : Fin 325, Cert.KernelIdeal.lit2t ((23 * 26 + (0 + j.val)) * 325 + p.val)
    = Cert.Pairs.selBits 23 (0 + j.val) p.val := by decide +kernel

/-- The entries of first field 23 and second fields 13 to 25. -/
theorem sel23_13 : ∀ j : Fin 13, ∀ p : Fin 325, Cert.KernelIdeal.lit2t ((23 * 26 + (13 + j.val)) * 325 + p.val)
    = Cert.Pairs.selBits 23 (13 + j.val) p.val := by decide +kernel

/-- The entries of first field 24 and second fields 0 to 12. -/
theorem sel24_0 : ∀ j : Fin 13, ∀ p : Fin 325, Cert.KernelIdeal.lit2t ((24 * 26 + (0 + j.val)) * 325 + p.val)
    = Cert.Pairs.selBits 24 (0 + j.val) p.val := by decide +kernel

/-- The entries of first field 24 and second fields 13 to 25. -/
theorem sel24_13 : ∀ j : Fin 13, ∀ p : Fin 325, Cert.KernelIdeal.lit2t ((24 * 26 + (13 + j.val)) * 325 + p.val)
    = Cert.Pairs.selBits 24 (13 + j.val) p.val := by decide +kernel

/-- The entries of first field 25 and second fields 0 to 12. -/
theorem sel25_0 : ∀ j : Fin 13, ∀ p : Fin 325, Cert.KernelIdeal.lit2t ((25 * 26 + (0 + j.val)) * 325 + p.val)
    = Cert.Pairs.selBits 25 (0 + j.val) p.val := by decide +kernel

/-- The entries of first field 25 and second fields 13 to 25. -/
theorem sel25_13 : ∀ j : Fin 13, ∀ p : Fin 325, Cert.KernelIdeal.lit2t ((25 * 26 + (13 + j.val)) * 325 + p.val)
    = Cert.Pairs.selBits 25 (13 + j.val) p.val := by decide +kernel

end Cert.Tables
-- ==== Proof.Tables.lean ====
/- The printed selection table and the spreading table, read at an index. -/
module

public import proofs.«01_k».proof.Proof.Fields
public import proofs.«01_k».proof.Proof.SelA
public import proofs.«01_k».proof.Proof.SelB
public import proofs.«01_k».proof.Proof.SelC
public import proofs.«01_k».proof.Proof.SelD

@[expose] public section
set_option maxRecDepth 16384

noncomputable section

namespace Cert.Tables

open Idealize.ShloMosaic Idealize.ShloMosaic.TcCoe Idealize.SL.Sem
open Cert.KernelIdeal Cert.KernelIdeal.HostFns Cert.Pairs

/-- Two half planes make a plane. -/
theorem join (f : ℕ → BitVec 32) (i : ℕ)
    (h0 : ∀ j : Fin 13, ∀ p : Fin 325, f ((i * 26 + (0 + j.val)) * 325 + p.val) = selBits i (0 + j.val) p.val)
    (h1 : ∀ j : Fin 13, ∀ p : Fin 325, f ((i * 26 + (13 + j.val)) * 325 + p.val) = selBits i (13 + j.val) p.val)
    (j : Fin 26) (p : Fin 325) : f ((i * 26 + j.val) * 325 + p.val) = selBits i j.val p.val := by
  by_cases hj : j.val < 13
  · have h := h0 ⟨j.val, hj⟩ p
    rw [show 0 + (⟨j.val, hj⟩ : Fin 13).val = j.val from Nat.zero_add _] at h
    exact h
  · have h := h1 ⟨j.val - 13, by omega⟩ p
    rw [show 13 + (⟨j.val - 13, by omega⟩ : Fin 13).val = j.val by show 13 + (j.val - 13) = j.val; omega] at h
    exact h

/-- A statement of the numbers below 26, one by one. -/
theorem below26 (P : ℕ → Prop) (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) (h16 : P 16) (h17 : P 17) (h18 : P 18) (h19 : P 19) (h20 : P 20) (h21 : P 21) (h22 : P 22) (h23 : P 23) (h24 : P 24) (h25 : P 25) (i : ℕ) (hi : i < 26) : P i := by
  interval_cases i <;> assumption

/-- The selection table is its closed formula everywhere. -/
theorem sel_all (i j : Fin 26) (p : Fin 325) : lit2t ((i.val * 26 + j.val) * 325 + p.val) = selBits i.val j.val p.val :=
  below26 (fun i => ∀ (j : Fin 26) (p : Fin 325), lit2t ((i * 26 + j.val) * 325 + p.val) = selBits i j.val p.val)
    (join lit2t 0 sel0_0 sel0_13)
    (join lit2t 1 sel1_0 sel1_13)
    (join lit2t 2 sel2_0 sel2_13)
    (join lit2t 3 sel3_0 sel3_13)
    (join lit2t 4 sel4_0 sel4_13)
    (join lit2t 5 sel5_0 sel5_13)
    (join lit2t 6 sel6_0 sel6_13)
    (join lit2t 7 sel7_0 sel7_13)
    (join lit2t 8 sel8_0 sel8_13)
    (join lit2t 9 sel9_0 sel9_13)
    (join lit2t 10 sel10_0 sel10_13)
    (join lit2t 11 sel11_0 sel11_13)
    (join lit2t 12 sel12_0 sel12_13)
    (join lit2t 13 sel13_0 sel13_13)
    (join lit2t 14 sel14_0 sel14_13)
    (join lit2t 15 sel15_0 sel15_13)
    (join lit2t 16 sel16_0 sel16_13)
    (join lit2t 17 sel17_0 sel17_13)
    (join lit2t 18 sel18_0 sel18_13)
    (join lit2t 19 sel19_0 sel19_13)
    (join lit2t 20 sel20_0 sel20_13)
    (join lit2t 21 sel21_0 sel21_13)
    (join lit2t 22 sel22_0 sel22_13)
    (join lit2t 23 sel23_0 sel23_13)
    (join lit2t 24 sel24_0 sel24_13)
    (join lit2t 25 sel25_0 sel25_13)
    i.val i.isLt j p

/-- The selection table at fields `i`, `j` and pair `p`, as the bits of its closed formula. -/
theorem tabSel_bits (i j : Fin 26) (p : Fin 325) :
    tabSel (ix3 i j p) = Ideal.ofBits .f32 (selBits i.val j.val p.val) := by
  have hv : (S26x26x325.rowMajor (ix3 i j p)).val = (i.val * 26 + j.val) * 325 + p.val := by
    refine (Shape.rowMajor_val_three _).trans ?_
    rfl
  show Ideal.ofBits .f32 (lit2 (S26x26x325.rowMajor (ix3 i j p))) = _
  generalize S26x26x325.rowMajor (ix3 i j p) = n at hv
  obtain ⟨n, hn⟩ := n
  show Ideal.ofBits .f32 (lit2t n) = _
  rw [show n = (i.val * 26 + j.val) * 325 + p.val from hv, sel_all]

/-- The selection table holds one at a pair's own fields. -/
theorem tabSel_one (p : Fin 325) : tabSel (ix3 (pi p) (pj p) p) = (1 : EReal) := by
  rw [tabSel_bits, selBits, show hit (pi p).val (pj p).val p.val = true from hit_pair p]
  exact Ideal.ofBits_one_f32

/-- The selection table holds zero elsewhere. -/
theorem tabSel_zero (i j : Fin 26) (p : Fin 325) (h : ¬(i = pi p ∧ j = pj p)) : tabSel (ix3 i j p) = (0 : EReal) := by
  have hf : hit i.val j.val p.val = false := by
    cases hc : hit i.val j.val p.val with
    | false => rfl
    | true => exact absurd (hit_only i j p hc) h
  rw [tabSel_bits, selBits, hf]
  exact Ideal.ofBits_zero_f32

/-- The spreading table holds one at the lanes of a pair, zero elsewhere. -/
theorem tabRep_apply (q : Fin 25) (k : Fin 1600) : tabRep (ix2 q k) = (if k.val / 64 = q.val then 1 else 0 : EReal) := by
  have hk : k.val / 64 < 25 := by omega
  pointwise [tabRep]
  have e : (BitVec.ofNat 32 q.val = BitVec.ofNat 32 (k.val / 64)) ↔ k.val / 64 = q.val := by
    rw [← BitVec.toNat_inj, BitVec.toNat_ofNat, BitVec.toNat_ofNat]
    omega
  show (((BitVec.ofBool (BitVec.ofNat 32 q.val == BitVec.ofNat 32 (k.val / 64))).toNat : ℝ) : EReal) = _
  by_cases h : k.val / 64 = q.val
  · rw [if_pos h, beq_iff_eq.mpr (e.mpr h)]
    simp
  · rw [if_neg h, beq_eq_false_iff_ne.mpr (fun h' => h (e.mp h'))]
    simp

end Cert.Tables

end
-- ==== Proof.Lookup.lean ====
/- The lookups of the programs, read at an index. -/
module

public import proofs.«01_k».proof.Proof.KEntry
public import proofs.«01_k».proof.Proof.Gen.ReferenceIdeal.Run

@[expose] public section
set_option maxRecDepth 16384

noncomputable section

namespace Cert.Lookup

open Idealize.ShloMosaic Idealize.ShloMosaic.TcCoe Idealize.SL.Sem
open Cert.KernelIdeal Cert.KernelIdeal.Gen Cert.KernelIdeal.Blocks Cert.KernelIdeal.HostFns

/-- A gather of whole rows of a table reads, at `(r, p, e)`, entry `e` of the row its index at `(r, p)` names,
    the row number clamped into the table. -/
theorem gather_rows {α : Type} (T : S100000x64.Idx → α) (idx : IVec S1024x325x1 32) (r : Fin 1024) (p : Fin 325) (e : Fin 64) :
    Host.gather gather_S100000x64_S1024x325x1_S1024x325x64_2_0_n_n_0_2_164 T idx (ix3 r p e)
      = T (ix2 ⟨min (idx (ix3 r p 0)).toInt.toNat 99999, by omega⟩ e) := by
  unfold Host.gather
  congr 1
  funext a
  refine Fin.ext ?_
  show GatherDims.start gather_S100000x64_S1024x325x1_S1024x325x64_2_0_n_n_0_2_164 (ix3 r p e) idx a
    + GatherDims.batchCoord gather_S100000x64_S1024x325x1_S1024x325x64_2_0_n_n_0_2_164 (ix3 r p e) a
    + GatherDims.offCoord gather_S100000x64_S1024x325x1_S1024x325x64_2_0_n_n_0_2_164 (ix3 r p e) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S100000x64_S1024x325x1_S1024x325x64_2_0_n_n_0_2_164
      from List.mem_singleton.mpr rfl)]
    have hsi : GatherDims.siIdx gather_S100000x64_S1024x325x1_S1024x325x64_2_0_n_n_0_2_164 (ix3 r p e)
        ⟨List.idxOf (0 : Fin 2) (GatherDims.startIndexMap gather_S100000x64_S1024x325x1_S1024x325x64_2_0_n_n_0_2_164),
          List.idxOf_lt_length_iff.2 (List.mem_singleton.mpr rfl)⟩ = ix3 r p 0 := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (show ¬ (1 : Fin 2) ∈ GatherDims.startIndexMap gather_S100000x64_S1024x325x1_S1024x325x64_2_0_n_n_0_2_164 from
        show ¬ (1 : Fin 2) ∈ ([0] : List (Fin 2)) by decide),
      dif_pos ((GatherDims.mem_sKept _ _).mpr ⟨show ¬ (1 : Fin 2) ∈ ([0] : List (Fin 2)) by decide, List.not_mem_nil⟩),
      Nat.zero_add]
    rfl

/-- A gather of whole middle rows reads, at `(r, p, e)`, entry `e` of the row its index at `p` names. -/
theorem gather_mid {α : Type} (T : S1024x26x64.Idx → α) (idx : IVec Cert.ReferenceIdeal.S325x1 32) (r : Fin 1024) (p : Fin 325) (e : Fin 64) :
    Host.gather Cert.ReferenceIdeal.gather_S1024x26x64_S325x1_S1024x325x64_02_1_n_n_1_1_1024164 T idx (ix3 r p e)
      = T (ix3 r ⟨min (idx (ix2 p 0)).toInt.toNat 25, by omega⟩ e) := by
  unfold Host.gather
  congr 1
  funext a
  refine Fin.ext ?_
  show GatherDims.start Cert.ReferenceIdeal.gather_S1024x26x64_S325x1_S1024x325x64_02_1_n_n_1_1_1024164 (ix3 r p e) idx a
    + GatherDims.batchCoord Cert.ReferenceIdeal.gather_S1024x26x64_S325x1_S1024x325x64_02_1_n_n_1_1_1024164 (ix3 r p e) a
    + GatherDims.offCoord Cert.ReferenceIdeal.gather_S1024x26x64_S325x1_S1024x325x64_02_1_n_n_1_1_1024164 (ix3 r p e) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil]
  rcases h01 with rfl | rfl | rfl
  · unfold GatherDims.start GatherDims.offCoord
    rw [dif_neg (show ¬ (0 : Fin 3) ∈ GatherDims.startIndexMap Cert.ReferenceIdeal.gather_S1024x26x64_S325x1_S1024x325x64_02_1_n_n_1_1_1024164 from
        show ¬ (0 : Fin 3) ∈ ([1] : List (Fin 3)) by decide),
      dif_pos ((GatherDims.mem_sKept _ _).mpr ⟨show ¬ (0 : Fin 3) ∈ ([1] : List (Fin 3)) by decide, List.not_mem_nil⟩),
      Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap
      Cert.ReferenceIdeal.gather_S1024x26x64_S325x1_S1024x325x64_02_1_n_n_1_1_1024164 from List.mem_singleton.mpr rfl)]
    have hsi : GatherDims.siIdx Cert.ReferenceIdeal.gather_S1024x26x64_S325x1_S1024x325x64_02_1_n_n_1_1_1024164 (ix3 r p e)
        ⟨List.idxOf (1 : Fin 3) (GatherDims.startIndexMap
            Cert.ReferenceIdeal.gather_S1024x26x64_S325x1_S1024x325x64_02_1_n_n_1_1_1024164),
          List.idxOf_lt_length_iff.2 (List.mem_singleton.mpr rfl)⟩ = ix2 p 0 := by
      funext b; refine Fin.ext ?_
      match b with
      | ⟨0, _⟩ => rfl
      | ⟨1, _⟩ => rfl
    rw [hsi]
    rfl
  · unfold GatherDims.start GatherDims.offCoord
    rw [dif_neg (show ¬ (2 : Fin 3) ∈ GatherDims.startIndexMap Cert.ReferenceIdeal.gather_S1024x26x64_S325x1_S1024x325x64_02_1_n_n_1_1_1024164 from
        show ¬ (2 : Fin 3) ∈ ([1] : List (Fin 3)) by decide),
      dif_pos ((GatherDims.mem_sKept _ _).mpr ⟨show ¬ (2 : Fin 3) ∈ ([1] : List (Fin 3)) by decide, List.not_mem_nil⟩),
      Nat.zero_add]
    rfl

/-- The host's remainder by 100000 is below 100000. -/
theorem remainder_lt (x : Vec Ideal S1024x325 .i32) (r : Fin 1024) (p : Fin 325) :
    (remainder x (constantI S_ 32 100000#32) (ix2 r p) : BitVec 32).toNat < 100000 := by
  have h : remainder x (constantI S_ 32 100000#32) (ix2 r p) = ((x (ix2 r p) : BitVec 32) % 100000#32 : BitVec 32) := by
    pointwise [remainder, remainder0, divisor]
    have h1 : (Scalar.select (IntOp.cmpi CmpIPredicate.eq 100000#32 0#32) 1#32 100000#32 : BitVec 32) = 100000#32 := by decide
    have h2 : ∀ u : BitVec 32, IntOp.cmpi CmpIPredicate.ult u 0#32 = 0#1 := by
      intro u
      show BitVec.ofBool (u.ult 0#32) = 0#1
      have : u.ult 0#32 = false := by
        simp [BitVec.ult]
      rw [this]; rfl
    have h3 : ∀ u : BitVec 1, IntOp.andi 0#1 u = 0#1 := by decide
    have h4 : IntOp.cmpi CmpIPredicate.ne 0#1 0#1 = 0#1 := by decide
    rw [h1, h2, h2, h4, h3]
    generalize (x (ix2 r p) : BitVec 32) = a
    have h5 : IntOp.remui ArithUnit.host a 100000#32 = a % 100000#32 := by
      unfold IntOp.remui
      rw [if_neg (by decide)]
    exact h5
  rw [h, BitVec.toNat_umod]
  exact Nat.mod_lt _ (by decide)

/-- A small word is not negative. -/
theorem not_neg (a : BitVec 32) (h : a.toNat < 100000) : IntOp.cmpi CmpIPredicate.slt a 0#32 = 0#1 := by
  have e : a.toInt = a.toNat := BitVec.toInt_eq_toNat_of_lt (by omega)
  show BitVec.ofBool (a.slt 0#32) = 0#1
  have : a.slt 0#32 = false := by
    simp only [BitVec.slt, e, BitVec.toInt_zero, decide_eq_false_iff_not]
    omega
  rw [this]; rfl

/-- A small word is at least zero. -/
theorem ge_zero (a : BitVec 32) (h : a.toNat < 100000) : IntOp.cmpi CmpIPredicate.sge a 0#32 = 1#1 := by
  have e : a.toInt = a.toNat := BitVec.toInt_eq_toNat_of_lt (by omega)
  show BitVec.ofBool ((0#32 : BitVec 32).sle a) = 1#1
  have : (0#32 : BitVec 32).sle a = true := by
    simp only [BitVec.sle, e, BitVec.toInt_zero, decide_eq_true_eq]
    omega
  rw [this]; rfl

/-- A small word is at most the last row. -/
theorem le_last (a : BitVec 32) (h : a.toNat < 100000) : IntOp.cmpi CmpIPredicate.sle a 99999#32 = 1#1 := by
  have e : a.toInt = a.toNat := BitVec.toInt_eq_toNat_of_lt (by omega)
  have e' : (99999#32 : BitVec 32).toInt = 99999 := by decide
  show BitVec.ofBool (a.sle 99999#32) = 1#1
  have : a.sle 99999#32 = true := by
    simp only [BitVec.sle, e, e', decide_eq_true_eq]
    omega
  rw [this]; rfl

/-- A lookup of a row in range reads that row. -/
theorem rowsAt_apply (T : Vec Ideal S100000x64 .f32) (k : Vec Ideal S1024x325 .i32) (r : Fin 1024) (p : Fin 325)
    (d : Fin 64) (hk : (k (ix2 r p) : BitVec 32).toNat < 100000) :
    rowsAt T k (ix3 r p d) = T (ix2 ⟨(k (ix2 r p) : BitVec 32).toNat, hk⟩ d) := by
  have hs : (Scalar.select (IntOp.cmpi CmpIPredicate.slt (k (ix2 r p)) 0#32) (IntOp.addi (k (ix2 r p)) 100000#32)
      (k (ix2 r p)) : BitVec 32) = k (ix2 r p) := by
    rw [not_neg _ hk]; rfl
  have hi : rowIds k (ix3 r p 0) = (k (ix2 r p) : BitVec 32) := by
    pointwise [rowIds]
    exact hs
  have hg : Host.gather gather_S100000x64_S1024x325x1_S1024x325x64_2_0_n_n_0_2_164 T (rowIds k) (ix3 r p d)
      = T (ix2 ⟨(k (ix2 r p) : BitVec 32).toNat, hk⟩ d) := by
    rw [gather_rows]
    have e : (k (ix2 r p) : BitVec 32).toInt = (k (ix2 r p) : BitVec 32).toNat := BitVec.toInt_eq_toNat_of_lt (by omega)
    have : min (rowIds k (ix3 r p 0) : BitVec 32).toInt.toNat 99999 = (k (ix2 r p) : BitVec 32).toNat := by
      rw [hi, e, Int.toNat_natCast]
      omega
    congr 2
    exact Fin.ext this
  rw [← hg]
  pointwise [rowsAt, rowIds]
  rw [hs, ge_zero _ hk, le_last _ hk]
  have : ∀ s : Finset (Fin 1), Finset.fold IntOp.andi (1#1) (fun _ => IntOp.andi 1#1 1#1) s = 1#1 := by decide
  rw [this]
  rfl

end Cert.Lookup

end
-- ==== Proof.RefVal.lean ====
/- The reference's result read at an index, part by part. -/
module

public import proofs.«01_k».proof.Proof.Lookup
public import proofs.«01_k».proof.Proof.Fields
public import proofs.«01_k».proof.Proof.Spec

@[expose] public section
set_option maxRecDepth 16384

noncomputable section

namespace Cert.ReferenceIdeal.Parts

open Idealize.ShloMosaic Idealize.ShloMosaic.TcCoe Idealize.SL.Sem
open Cert.ReferenceIdeal Cert.ReferenceIdeal.Gen

/-- The merged features before the hyperbolic tangent. -/
def merged (A B : FVec Ideal S1024x325x64 .f32) (w : FVec Ideal S128x64 .f32) (b : FVec Ideal S64 .f32) : FVec Ideal S1024x325x64 .f32 :=
  addf (Host.dotGeneral dot_S1024x325x128_S128x64_S1024x325x64_2_0_01_1_n_n none
      (concatenate S1024x325x128 2 [⟨S1024x325x64, A⟩, ⟨S1024x325x64, B⟩] concatenates_S1024x325x64_S1024x325x64_S1024x325x128_d2) w)
    (broadcastInDim S1024x325x64 ![0, 1, 2] bcast_S1x1x64_S1024x325x64_0_1_2 (broadcastInDim S1x1x64 ![2] bcast_S64_S1x1x64_2 b))

/-- The attention scores. -/
def scores (E : FVec Ideal S1024x26x64 .f32) (I J : IVec S325 32) (wa : FVec Ideal S64 .f32) : FVec Ideal S1024x325 .f32 :=
  Host.dotGeneral dot_S1024x325x64_S64_S1024x325_2_0_01_n_n_n none
    (mulf
      (Host.gather gather_S1024x26x64_S325x1_S1024x325x64_02_1_n_n_1_1_1024164 E
        (broadcastInDim S325x1 ![0] bcast_S325_S325x1_0
          (select (constantI S325 1 0#1) (addi I (broadcastInDim S325 ![] bcast_S_S325 (constantI S_ 32 26#32))) I)))
      (Host.gather gather_S1024x26x64_S325x1_S1024x325x64_02_1_n_n_1_1_1024164 E
        (broadcastInDim S325x1 ![0] bcast_S325_S325x1_0
          (select (constantI S325 1 0#1) (addi J (broadcastInDim S325 ![] bcast_S_S325 (constantI S_ 32 26#32))) J)))) wa

/-- The exponentials of the scores less their maximum. -/
def expos (s : FVec Ideal S1024x325 .f32) : FVec Ideal S1024x325 .f32 :=
  Host.exp (subf s (broadcastInDim S1024x325 ![0, 1] bcast_S1024x1_S1024x325_0_1 (broadcastInDim S1024x1 ![0] bcast_S1024_S1024x1_0
    (maximumf (broadcastInDim S1024 ![] bcast_S_S1024 (constant (F := Ideal) S_ .f32 0xFF800000#32))
      (Host.reduce FloatOps.maximumf s (constant (F := Ideal) S_ .f32 0xFF800000#32) reducesTo_S1024x325_S1024_d1 h_S_)))))

/-- The weighted pair features. -/
def weighted (M : FVec Ideal S1024x325x64 .f32) (X : FVec Ideal S1024x325 .f32) : FVec Ideal S1024x325x64 .f32 :=
  mulf (Host.tanh M) (broadcastInDim S1024x325x64 ![0, 1, 2] bcast_S1024x325x1_S1024x325x64_0_1_2
    (broadcastInDim S1024x325x1 ![0, 1] bcast_S1024x325_S1024x325x1_0_1
      (Host.divf X (broadcastInDim S1024x325 ![0, 1] bcast_S1024x1_S1024x325_0_1 (broadcastInDim S1024x1 ![0] bcast_S1024_S1024x1_0
        (Host.reduceAdd X (constant (F := Ideal) S_ .f32 0x00000000#32) reducesTo_S1024x325_S1024_d1 h_S_))))))

/-- The final layer. -/
def final (E : FVec Ideal S1024x26x64 .f32) (G : FVec Ideal S1024x325x64 .f32) (W : FVec Ideal S22464x256 .f32) (bo : FVec Ideal S256 .f32) :
    FVec Ideal S1024x256 .f32 :=
  addf (Host.dotGeneral dot_S1024x22464_S22464x256_S1024x256_1_0_0_1_n_n none
      (concatenate S1024x22464 1 [⟨S1024x1664, shapeCast S1024x1664 E shapeCasts_S1024x26x64_S1024x1664⟩,
        ⟨S1024x20800, shapeCast S1024x20800 G shapeCasts_S1024x325x64_S1024x20800⟩] concatenates_S1024x1664_S1024x20800_S1024x22464_d1) W)
    (broadcastInDim S1024x256 ![0, 1] bcast_S1x256_S1024x256_0_1 (broadcastInDim S1x256 ![1] bcast_S256_S1x256_1 bo))

/-- The merged features: the two looked-up rows through the two halves of the merge matrix, plus the bias. -/
theorem merged_apply (A B : FVec Ideal S1024x325x64 .f32) (w : FVec Ideal S128x64 .f32) (b : FVec Ideal S64 .f32)
    (r : Fin 1024) (p : Fin 325) (d : Fin 64) : merged A B w b (ix3 r p d)
      = (∑ k : Fin 64, A (ix3 r p k) * w (ix2 ⟨k.val, by omega⟩ d))
        + ((∑ k : Fin 64, B (ix3 r p k) * w (ix2 ⟨64 + k.val, by omega⟩ d)) + b (ix1 d)) := by
  pointwise [merged]
  rw [add_assoc]

/-- The embedding of a pair's field, at a field number held by a table. -/
theorem mid_at (E : FVec Ideal S1024x26x64 .f32) (I : IVec S325 32) (r : Fin 1024) (p : Fin 325) (x : Fin 64) (i : Fin 26)
    (hi : (I (ix1 p) : BitVec 32).toNat = i.val) :
    Host.gather gather_S1024x26x64_S325x1_S1024x325x64_02_1_n_n_1_1_1024164 E
        (broadcastInDim S325x1 ![0] bcast_S325_S325x1_0
          (select (constantI S325 1 0#1) (addi I (broadcastInDim S325 ![] bcast_S_S325 (constantI S_ 32 26#32))) I)) (ix3 r p x)
      = E (ix3 r i x) := by
  have hx : broadcastInDim S325x1 ![0] bcast_S325_S325x1_0
      (select (constantI S325 1 0#1) (addi I (broadcastInDim S325 ![] bcast_S_S325 (constantI S_ 32 26#32))) I) (ix2 p 0)
      = (I (ix1 p) : BitVec 32) := by
    pointwise
  rw [Cert.Lookup.gather_mid]
  generalize broadcastInDim S325x1 ![0] bcast_S325_S325x1_0
      (select (constantI S325 1 0#1) (addi I (broadcastInDim S325 ![] bcast_S_S325 (constantI S_ 32 26#32))) I) = t at hx
  have e : (I (ix1 p) : BitVec 32).toInt = (I (ix1 p) : BitVec 32).toNat := BitVec.toInt_eq_toNat_of_lt (by omega)
  have : min (t (ix2 p 0) : BitVec 32).toInt.toNat 25 = i.val := by
    rw [hx, e, Int.toNat_natCast, hi]
    omega
  congr 2
  exact Fin.ext this

/-- The score of a pair is the model's score of the two fields the tables hold. -/
theorem scores_apply (E : FVec Ideal S1024x26x64 .f32) (I J : IVec S325 32) (wa : FVec Ideal S64 .f32)
    (r : Fin 1024) (p : Fin 325) (i j : Fin 26) (hi : (I (ix1 p) : BitVec 32).toNat = i.val) (hj : (J (ix1 p) : BitVec 32).toNat = j.val) :
    scores E I J wa (ix2 r p) = Cert.Spec.score (fun f d => E (ix3 r f d)) (fun d => wa (ix1 d)) i j := by
  pointwise [scores]
  unfold Cert.Spec.score
  refine Finset.sum_congr rfl fun x _ => ?_
  rw [mid_at E I r p x i hi, mid_at E J r p x j hj]

/-- The exponentials, at a pair. -/
theorem expos_apply (s : FVec Ideal S1024x325 .f32) (r : Fin 1024) (p : Fin 325) :
    expos s (ix2 r p) = Ideal.exp (s (ix2 r p) - Cert.Spec.peak fun q => s (ix2 r q)) := by
  pointwise [expos]
  congr 2
  exact Cert.Spec.max_peak _

/-- The weighted features, at a pair and a lane. -/
theorem weighted_apply (M : FVec Ideal S1024x325x64 .f32) (X : FVec Ideal S1024x325 .f32) (r : Fin 1024) (p : Fin 325) (d : Fin 64) :
    weighted M X (ix3 r p d) = Ideal.tanh (M (ix3 r p d)) * Ideal.div (X (ix2 r p)) (∑ q : Fin 325, X (ix2 r q)) := by
  pointwise [weighted]

/-- The final layer, at a row and an output: the embeddings' part, the pairs' part and the bias. -/
theorem final_apply (E : FVec Ideal S1024x26x64 .f32) (G : FVec Ideal S1024x325x64 .f32) (W : FVec Ideal S22464x256 .f32) (bo : FVec Ideal S256 .f32)
    (r : Fin 1024) (o : Fin 256) : final E G W bo (ix2 r o)
      = (∑ k : Fin 1664, E (ix3 r ⟨k.val / 64, by omega⟩ ⟨k.val % 64, by omega⟩) * W (ix2 ⟨k.val, by omega⟩ o))
        + (∑ k : Fin 20800, G (ix3 r ⟨k.val / 64, by omega⟩ ⟨k.val % 64, by omega⟩) * W (ix2 ⟨1664 + k.val, by omega⟩ o))
        + bo (ix1 o) := by
  pointwise [final]

end Cert.ReferenceIdeal.Parts

end
-- ==== Proof.RefTerm.lean ====
/- The reference's named intermediate values are the host functions both programs share. -/
module

public import proofs.«01_k».proof.Proof.RefVal

@[expose] public section
set_option maxRecDepth 16384

noncomputable section

namespace Cert.ReferenceIdeal.Parts

open Idealize.ShloMosaic Idealize.ShloMosaic.TcCoe Idealize.SL.Sem Idealize.ShloMosaic.StableHlo
open Cert.ReferenceIdeal Cert.ReferenceIdeal.Gen Cert.ReferenceIdeal.Value
open Cert.KernelIdeal.HostFns (fieldsAt rowsAt rowIds embAt embIds code0 code1 tabI tabJ mixed remainder remainder0 divisor)

variable (V : Valuation τ sig (Elt Ideal))

/-- The reference's embeddings. -/
theorem emb_eq : res_main_v0 (F := Ideal) V = embAt (V (Proc.devRef .tc main_arg1)) (V (Proc.devRef .tc main_arg0)) := rfl

/-- The reference's table of first fields. -/
theorem tabI_eq : res_main_c (F := Ideal) V = tabI := funext fun i => Cert.Tables.same0 _
/-- The reference's table of second fields. -/
theorem tabJ_eq : res_main_c_1 (F := Ideal) V = tabJ := funext fun i => Cert.Tables.same1 _

/-- The reference's first features. -/
theorem fieldsI_eq : res_main_v6 (F := Ideal) V = fieldsAt (V (Proc.devRef .tc main_arg0)) tabI := by
  unfold res_main_v6
  rw [tabI_eq]
  rfl
/-- The reference's second features. -/
theorem fieldsJ_eq : res_main_v12 (F := Ideal) V = fieldsAt (V (Proc.devRef .tc main_arg0)) tabJ := by
  unfold res_main_v12
  rw [tabJ_eq]
  rfl

/-- The reference's first remainder before its sign is settled. -/
theorem rem0_eq : res_main_call1_v3 (F := Ideal) V = remainder0 (mixed 2654435761#32 3266489917#32 374761393#32
    (fieldsAt (V (Proc.devRef .tc main_arg0)) tabI) (fieldsAt (V (Proc.devRef .tc main_arg0)) tabJ))
    (constantI S_ 32 100000#32) := by
  unfold res_main_call1_v3
  rw [fieldsI_eq, fieldsJ_eq]
  rfl

/-- The reference's second remainder before its sign is settled. -/
theorem rem1_eq : res_main_call3_v3 (F := Ideal) V = remainder0 (mixed 2246822519#32 668265263#32 1103515245#32
    (fieldsAt (V (Proc.devRef .tc main_arg0)) tabI) (fieldsAt (V (Proc.devRef .tc main_arg0)) tabJ))
    (constantI S_ 32 100000#32) := by
  unfold res_main_call3_v3
  rw [fieldsI_eq, fieldsJ_eq]
  rfl

/-- The reference's first hash. -/
theorem code0_eq : res_main_v21 (F := Ideal) V = code0 (V (Proc.devRef .tc main_arg0)) := by
  unfold res_main_v21
  rw [rem0_eq]
  rfl
/-- The reference's second hash. -/
theorem code1_eq : res_main_v31 (F := Ideal) V = code1 (V (Proc.devRef .tc main_arg0)) := by
  unfold res_main_v31
  rw [rem1_eq]
  rfl

/-- The reference's first lookup's row numbers. -/
theorem ids0_eq : res_main_call2_v5 (F := Ideal) V = rowIds (code0 (V (Proc.devRef .tc main_arg0))) := by
  unfold res_main_call2_v5
  rw [code0_eq]
  rfl
/-- The reference's second lookup's row numbers. -/
theorem ids1_eq : res_main_call4_v5 (F := Ideal) V = rowIds (code1 (V (Proc.devRef .tc main_arg0))) := by
  unfold res_main_call4_v5
  rw [code1_eq]
  rfl

/-- The reference's scores. -/
theorem scores_eq : res_main_v50 (F := Ideal) V
    = scores (embAt (V (Proc.devRef .tc main_arg1)) (V (Proc.devRef .tc main_arg0))) tabI tabJ (V (Proc.devRef .tc main_arg5)) := by
  unfold res_main_v50
  rw [tabI_eq, tabJ_eq, emb_eq]
  rfl

/-- The reference's exponentials. -/
theorem expos_eq : res_main_v57 (F := Ideal) V
    = expos (scores (embAt (V (Proc.devRef .tc main_arg1)) (V (Proc.devRef .tc main_arg0))) tabI tabJ (V (Proc.devRef .tc main_arg5))) := by
  unfold res_main_v57
  rw [scores_eq]
  rfl

/-- The reference's whole result as a function of its arguments. -/
def result (x : Vec Ideal S1024x26 .i32) (emb cb : Vec Ideal S100000x64 .f32) (w : Vec Ideal S128x64 .f32) (b wa : Vec Ideal S64 .f32)
    (W : Vec Ideal S22464x256 .f32) (bo : Vec Ideal S256 .f32) : FVec Ideal S1024x256 .f32 :=
  final (embAt emb x) (weighted (merged (rowsAt cb (code0 x)) (rowsAt cb (code1 x)) w b) (expos (scores (embAt emb x) tabI tabJ wa))) W bo

/-- A lookup of rows by row numbers, rows out of range filled with a constant. -/
def lookup (T : Vec Ideal S100000x64 .f32) (ids : Vec Ideal S1024x325x1 .i32) : Vec Ideal S1024x325x64 .f32 :=
  select (broadcastInDim S1024x325x64 ![0, 1] bcast_S1024x325_S1024x325x64_0_1
      (Host.reduce IntOp.andi (andi (cmpi .sge ids (broadcastInDim S1024x325x1 ![] bcast_S_S1024x325x1 (constantI S_ 32 0#32)))
          (cmpi .sle ids (broadcastInDim S1024x325x1 ![0, 1, 2] bcast_S1x1x1_S1024x325x1_0_1_2
            (broadcastInDim S1x1x1 ![2] bcast_S1_S1x1x1_2 (constantI S1 32 99999#32)))))
        (constantI S_ 1 1#1) reducesTo_S1024x325x1_S1024x325_d2 h_S_))
    (Host.gather gather_S100000x64_S1024x325x1_S1024x325x64_2_0_n_n_0_2_164 T ids)
    (broadcastInDim S1024x325x64 ![] bcast_S_S1024x325x64 (constant (F := Ideal) S_ .f32 0x7FC00000#32))

/-- The named parts of the reference's result put together. -/
def joined : FVec Ideal S1024x256 .f32 :=
  final (res_main_v0 (F := Ideal) V)
    (weighted (merged (lookup (V (Proc.devRef .tc main_arg2)) (res_main_call2_v5 (F := Ideal) V))
        (lookup (V (Proc.devRef .tc main_arg2)) (res_main_call4_v5 (F := Ideal) V)) (V (Proc.devRef .tc main_arg3)) (V (Proc.devRef .tc main_arg4)))
      (res_main_v57 (F := Ideal) V)) (V (Proc.devRef .tc main_arg6)) (V (Proc.devRef .tc main_arg7))

/-- The named parts put together are the result as a function of the arguments. -/
theorem joined_eq : joined V
    = result (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  unfold joined result
  rw [emb_eq, ids0_eq, ids1_eq, expos_eq]
  rfl

/-- The reference's run leaves that function of its arguments, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((show _ = joined (launchContents m c) from rfl).trans (joined_eq (launchContents m c))), (h c).2⟩)
    (Value.run m ρ)

end Cert.ReferenceIdeal.Parts

end
-- ==== Proof.Result.lean ====
/- Both programs' results are one function of the arguments. -/
module

public import proofs.«01_k».proof.Proof.KRun
public import proofs.«01_k».proof.Proof.RowsAll
public import proofs.«01_k».proof.Proof.Tables
public import proofs.«01_k».proof.Proof.RefTerm

@[expose] public section
set_option maxRecDepth 16384

noncomputable section

namespace Cert.Result

open Idealize.ShloMosaic Idealize.ShloMosaic.TcCoe Idealize.SL.Sem
open Cert.KernelIdeal Cert.KernelIdeal.Gen Cert.KernelIdeal.Blocks Cert.KernelIdeal.HostFns Cert.KernelIdeal.Rows
open Cert.Tables (pi pj)

/-- A merged feature of a row: the two looked-up codebook rows through the two halves of the merge matrix, plus the bias. -/
def feature (x : Vec Ideal S1024x26 .i32) (cb : Vec Ideal S100000x64 .f32) (w : Vec Ideal S128x64 .f32) (b : Vec Ideal S64 .f32)
    (r : Fin 1024) (p : Fin 325) (d : Fin 64) : EReal :=
  (∑ k : Fin 64, rowsAt cb (code0 x) (ix3 r p k) * w (ix2 ⟨k.val, by omega⟩ d))
    + ((∑ k : Fin 64, rowsAt cb (code1 x) (ix3 r p k) * w (ix2 ⟨64 + k.val, by omega⟩ d)) + b (ix1 d))

/-- The model's result at one row and one output. -/
def value (x : Vec Ideal S1024x26 .i32) (emb cb : Vec Ideal S100000x64 .f32) (w : Vec Ideal S128x64 .f32) (b wa : Vec Ideal S64 .f32)
    (W : Vec Ideal Cert.ReferenceIdeal.S22464x256 .f32) (bo : Vec Ideal Cert.ReferenceIdeal.S256 .f32) (r : Fin 1024) (o : Fin 256) : EReal :=
  entry pi pj (fun f d => embAt emb x (ix3 r f d)) (fun k => embAt emb x (ix3 r ⟨k.val / 64, by omega⟩ ⟨k.val % 64, by omega⟩))
    (fun k => feature x cb w b r ⟨k.val / 64, by omega⟩ ⟨k.val % 64, by omega⟩) (fun d => wa (ix1 d))
    (fun k => W (ix2 ⟨k.val, by omega⟩ o)) (fun k => W (ix2 ⟨1664 + k.val, by omega⟩ o)) (bo (ix1 o))

/-- The two lookups of product rows add up to the merged feature. -/
theorem feature_eq (x : Vec Ideal S1024x26 .i32) (cb : Vec Ideal S100000x64 .f32) (w : Vec Ideal S128x64 .f32) (b : Vec Ideal S64 .f32)
    (r : Fin 1024) (p : Fin 325) (d : Fin 64) :
    (rowsAt (prod0 cb w) (code0 x) (ix3 r p d) + rowsAt (prod1 cb w b) (code1 x) (ix3 r p d) : EReal) = feature x cb w b r p d := by
  have h0 : (code0 x (ix2 r p) : BitVec 32).toNat < 100000 := Cert.Lookup.remainder_lt _ r p
  have h1 : (code1 x (ix2 r p) : BitVec 32).toNat < 100000 := Cert.Lookup.remainder_lt _ r p
  unfold feature
  simp only [Cert.Lookup.rowsAt_apply _ _ r p _ h0, Cert.Lookup.rowsAt_apply _ _ r p _ h1]
  generalize (⟨(code0 x (ix2 r p) : BitVec 32).toNat, h0⟩ : Fin 100000) = n0
  generalize (⟨(code1 x (ix2 r p) : BitVec 32).toNat, h1⟩ : Fin 100000) = n1
  pointwise [prod0, prod1, rowsTimes, rowsTimesPlus]

/-- Two entries of equal ingredients are equal. -/
theorem entry_congr (E : Fin 26 → Fin 64 → EReal) {E₁ E₂ : Fin 1664 → EReal} {H₁ H₂ : Fin 20800 → EReal} {wa₁ wa₂ : Fin 64 → EReal}
    {W₁ W₂ : Fin 1664 → EReal} {V₁ V₂ : Fin 20800 → EReal} {b₁ b₂ : EReal} (hE : ∀ k, E₁ k = E₂ k) (hH : ∀ k, H₁ k = H₂ k)
    (hwa : ∀ k, wa₁ k = wa₂ k) (hW : ∀ k, W₁ k = W₂ k) (hV : ∀ k, V₁ k = V₂ k) (hb : b₁ = b₂) :
    entry pi pj E E₁ H₁ wa₁ W₁ V₁ b₁ = entry pi pj E E₂ H₂ wa₂ W₂ V₂ b₂ := by
  rw [funext hE, funext hH, funext hwa, funext hW, funext hV, hb]

/-- The kernel's table of its second region's inputs is the model's result. -/
theorem table_eq (x : Vec Ideal S1024x26 .i32) (emb cb : Vec Ideal S100000x64 .f32) (w : Vec Ideal S128x64 .f32) (b wa : Vec Ideal S64 .f32)
    (W : Vec Ideal S22464x256 .f32) (bo : Vec Ideal S256 .f32) :
    table pi pj (embAt emb x) (shapeCast S1024x1664 (embAt emb x) shapeCasts_S1024x26x64_S1024x1664)
      (shapeCast S1024x20800 (addf (F := Ideal) (φ := .f32) (rowsAt (prod0 cb w) (code0 x)) (rowsAt (prod1 cb w b) (code1 x))) shapeCasts_S1024x325x64_S1024x20800)
      (extractStridedSlice S1664x256 ![0, 0] W slices_S22464x256_S1664x256_0_0) (extractStridedSlice S20800x256 ![1664, 0] W slices_S22464x256_S20800x256_1664_0)
      (shapeCast S1x1x64 wa shapeCasts_S64_S1x1x64) (shapeCast S1x256 bo shapeCasts_S256_S1x256)
      = fun i => value x emb cb w b wa W bo (i 0) (i 1) := by
  funext i
  idx_vars i
  refine Eq.trans ?_ (show value x emb cb w b wa W bo i0 i1 = _ from rfl)
  unfold table value
  refine entry_congr _ (fun k => ?_) (fun k => ?_) (fun k => ?_) (fun k => ?_) (fun k => ?_) ?_
  · generalize embAt emb x = E
    pointwise
  · refine Eq.trans ?_ (feature_eq x cb w b i0 _ _)
    generalize rowsAt (prod0 cb w) (code0 x) = A
    generalize rowsAt (prod1 cb w b) (code1 x) = B
    pointwise
  · pointwise
  · pointwise
  · pointwise
  · pointwise

/-- A pair number is its own position. -/
theorem row325 (q : Fin 325) : S325.rowMajor (ix1 q) = q := Fin.ext (Shape.rowMajor_val_one _)

/-- The reference's result is the model's result. -/
theorem reference_eq (x : Vec Ideal S1024x26 .i32) (emb cb : Vec Ideal S100000x64 .f32) (w : Vec Ideal S128x64 .f32) (b wa : Vec Ideal S64 .f32)
    (W : Vec Ideal Cert.ReferenceIdeal.S22464x256 .f32) (bo : Vec Ideal Cert.ReferenceIdeal.S256 .f32) :
    Cert.ReferenceIdeal.Parts.result x emb cb w b wa W bo = fun i => value x emb cb w b wa W bo (i 0) (i 1) := by
  funext i
  idx_vars i
  unfold Cert.ReferenceIdeal.Parts.result
  rw [Cert.ReferenceIdeal.Parts.final_apply]
  simp only [Cert.ReferenceIdeal.Parts.weighted_apply, Cert.ReferenceIdeal.Parts.expos_apply, Cert.ReferenceIdeal.Parts.merged_apply]
  have hs : ∀ q : Fin 325, Cert.ReferenceIdeal.Parts.scores (embAt emb x) tabI tabJ wa (ix2 i0 q)
      = Cert.Spec.score (fun f d => embAt emb x (ix3 i0 f d)) (fun d => wa (ix1 d)) (pi q) (pj q) := fun q => by
    refine Cert.ReferenceIdeal.Parts.scores_apply (embAt emb x) tabI tabJ wa i0 q (pi q) (pj q) ?_ ?_
    · show (lit0 (S325.rowMajor (ix1 q))).toNat = (lit0 q).toNat
      rw [row325]
    · show (lit1 (S325.rowMajor (ix1 q))).toNat = (lit1 q).toNat
      rw [row325]
  simp only [hs]
  rfl

variable (m : (ℓ : Loc nD τ sig) → Buf (Elt Ideal) ℓ) (ρ : Dev nD → PrngReg) (c : Dev nD)

/-- The kernel leaves the model's result in its output buffer. -/
theorem kernel_eq : W13 m ρ c (Proc.devRef .tc main_v49)
    = fun i => value (arg m c main_arg0) (arg m c main_arg1) (arg m c main_arg2) (arg m c main_arg3) (arg m c main_arg4)
        (arg m c main_arg5) (arg m c main_arg6) (arg m c main_arg7) (i 0) (i 1) := by
  refine (W13_arr m ρ c 9).trans ?_
  refine (third (V12 m ρ) c pi pj (fun p => ?_) (fun i j p h => ?_) (fun q k => ?_)).trans ?_
  · exact (congrFun (at12_cst m ρ c) _).trans (Cert.Tables.tabSel_one p)
  · exact (congrFun (at12_cst m ρ c) _).trans (Cert.Tables.tabSel_zero i j p h)
  · exact (congrFun (at12_v47 m ρ c) _).trans (Cert.Tables.tabRep_apply q k)
  · refine Eq.trans ?_ (table_eq (arg m c main_arg0) (arg m c main_arg1) (arg m c main_arg2) (arg m c main_arg3) (arg m c main_arg4) (arg m c main_arg5) (arg m c main_arg6) (arg m c main_arg7))
    show table pi pj (W12 m ρ c (Proc.devRef .tc main_v38)) (W12 m ρ c (Proc.devRef .tc main_v39)) (W12 m ρ c (Proc.devRef .tc main_v37))
      (W12 m ρ c (Proc.devRef .tc main_v40)) (W12 m ρ c (Proc.devRef .tc main_v41)) (W12 m ρ c (Proc.devRef .tc main_v42))
      (W12 m ρ c (Proc.devRef .tc main_v48)) = _
    rw [at12_v37, at12_v38, at12_v39, at12_v40, at12_v41, at12_v42, at12_v48]

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference runs, leaves its arguments as they were and every semaphore at zero. -/
theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- At the ideal numbers the kernel and the reference end with one result, the model's function of the arguments. -/
theorem algebraic : algebraic_KernelIdeal_ReferenceIdeal := fun m g m' g' _ hm =>
  ⟨fun c => Cert.KernelIdeal.Gen.W13 m g c (Proc.devRef .tc Cert.KernelIdeal.main_v49), Cert.KernelIdeal.Launched.run m g,
    (θ_run Cert.ReferenceIdeal.defs _ _).mono (fun r h c => ⟨by
      obtain ⟨h0, h1, h2, h3, h4, h5, h6, h7⟩ := hm c
      refine (h c).1.trans ?_
      rw [h0, h1, h2, h3, h4, h5, h6, h7]
      exact (Cert.Result.reference_eq _ _ _ _ _ _ _ _).trans (Cert.Result.kernel_eq m g c).symm, (h c).2⟩)
      (Cert.ReferenceIdeal.Parts.run_result m' g')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
